-- ==== Defs.lean ====
def Pre_Kernel [hPre_types_in_range : Cert.Pre_types_in_range.Facts] (m : (ℓ : Loc Cert.Kernel.nD Cert.Kernel.τ Cert.Kernel.sig) → Buf (Elt Bits) ℓ) : Prop :=
  ∀ c : Dev Cert.Kernel.nD,
    (Cert.Pre_types_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_types_in_range : Cert.Pre_types_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_types_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_types_in_range [hPre_types_in_range : Cert.Pre_types_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_types_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_types_in_range : Cert.Pre_types_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_types_in_range : Cert.Pre_types_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_types_in_range [hReferenceIdeal : Cert.ReferenceIdeal.Facts] [hPre_types_in_range : Cert.Pre_types_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_types_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_types_in_range : Cert.Pre_types_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_types_in_range : Cert.Pre_types_in_range.Facts),
    quiescent_Kernel (hKernel := hKernel) (hPre_types_in_range := hPre_types_in_range)
    ∧ quiescent_KernelIdeal (hKernelIdeal := hKernelIdeal) (hPre_types_in_range := hPre_types_in_range)
    ∧ quiescent_ReferenceIdeal (hReferenceIdeal := hReferenceIdeal)
    ∧ quiescent_ReferenceIdeal_pre_types_in_range (hReferenceIdeal := hReferenceIdeal) (hPre_types_in_range := hPre_types_in_range)
    ∧ preserves_Kernel_KernelIdeal
    ∧ algebraic_KernelIdeal_ReferenceIdeal (hKernelIdeal := hKernelIdeal) (hReferenceIdeal := hReferenceIdeal) (hPre_types_in_range := hPre_types_in_range)
-- ==== Pre_types_in_range.lean ====
abbrev S320000x128 : Shape := ⟨2, ![320000, 128]⟩
abbrev S320000 : Shape := ⟨1, ![320000]⟩
abbrev S1024x128 : Shape := ⟨2, ![1024, 128]⟩
abbrev S_ : Shape := ⟨0, ![]⟩

class Facts : Prop where
  bcast_S_S320000 : S_.BroadcastsInDim S320000 (![] : Fin 0 → Fin S320000.rank)
  reducesTo_S320000_S_d0 : S320000.ReducesTo [0] S_
  h_S_ : 0 < S_.numel

variable [Facts]

def fn {F : FTy → Type} [FloatOps F] (main_arg0 : FVec F S320000x128 .f32) (main_arg1 : IVec S320000 32) (main_arg2 : FVec F S1024x128 .f32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 32 := constantI S_ 32 1024#32
  let main_v2 : IVec S320000 32 := broadcastInDim S320000 ![] bcast_S_S320000 main_c_0
  let main_v3 : IVec S320000 1 := cmpi .slt main_arg1 main_v2
  let main_v4 : IVec S320000 1 := andi main_v1 main_v3
  let main_c_1 : IVec S_ 1 := constantI S_ 1 1#1
  let main_v5 : IVec S_ 1 := (fun x v => Host.reduce IntOp.andi x v reducesTo_S320000_S_d0 h_S_) main_v4 main_c_1
  main_v5
-- ==== Kernel.lean ====
abbrev S320000x128 : Shape := ⟨2, ![320000, 128]⟩
abbrev S320000 : Shape := ⟨1, ![320000]⟩
abbrev S1024x128 : Shape := ⟨2, ![1024, 128]⟩
abbrev S80 : Shape := ⟨1, ![80]⟩
abbrev S80x128 : Shape := ⟨2, ![80, 128]⟩
abbrev S_ : Shape := ⟨0, ![]⟩
abbrev S1x16 : Shape := ⟨2, ![1, 16]⟩
abbrev S16 : Shape := ⟨1, ![16]⟩

abbrev nBuf : Table → Nat
  | .hbm => 4
  | .local .scVector .vmem => 4
  | _ => 0

abbrev bufTy : (tb : Table) → Fin (nBuf tb) → BufTy
  | .hbm, ⟨0, _⟩ => ⟨S320000x128, .f32⟩
  | .hbm, ⟨1, _⟩ => ⟨S320000, .i32⟩
  | .hbm, ⟨2, _⟩ => ⟨S1024x128, .f32⟩
  | .hbm, ⟨3, _⟩ => ⟨S320000x128, .f32⟩
  | .local .scVector .vmem, ⟨0, _⟩ => ⟨S80, .i32⟩
  | .local .scVector .vmem, ⟨1, _⟩ => ⟨S80x128, .f32⟩
  | .local .scVector .vmem, ⟨2, _⟩ => ⟨S80x128, .f32⟩
  | .local .scVector .vmem, ⟨3, _⟩ => ⟨S80x128, .f32⟩
  | _, _ => ⟨S320000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c125_i32 : BitVec 32 := 125#32
  let v3 : BitVec 32 := Scalar.addi c0_i32_0 c125_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_0 : BitVec 32 := 0#32
  let c1_i32 : BitVec 32 := 1#32
  let arg11 : BitVec 32 := Scf.iv c0_i32_0 c1_i32 k0_t1
  let c80_i32 : BitVec 32 := 80#32
  let v5 : BitVec 32 := Scalar.muli arg11 c80_i32
  let v6 : BitVec 32 := Scalar.addi v2 v5
  ![v6.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10000_i32 : BitVec 32 := 10000#32
  let v2 : BitVec 32 := Scalar.muli v1 c10000_i32
  let c0_i32_0 : BitVec 32 := 0#32
  let c1_i32 : BitVec 32 := 1#32
  let arg11 : BitVec 32 := Scf.iv c0_i32_0 c1_i32 k0_t1
  let c80_i32 : BitVec 32 := 80#32
  let v5 : BitVec 32 := Scalar.muli arg11 c80_i32
  let v6 : BitVec 32 := Scalar.addi v2 v5
  let c0_i32_12_r1 : BitVec 32 := 0#32
  ![v6.toNat, 0]
@[reducible] def k0_t2_loop : Scf.Loop 32 :=
  let c0_i32_7 : BitVec 32 := 0#32
  let c80_i32_8 : BitVec 32 := 80#32
  let v9 : BitVec 32 := Scalar.addi c0_i32_7 c80_i32_8
  let c1_i32_9 : BitVec 32 := 1#32
  ⟨c0_i32_7, v9, c1_i32_9⟩
def k0_off3 (k0_t2 : Fin k0_t2_loop.trips) : Fin 2 → Nat :=
  let c0_i32_7 : BitVec 32 := 0#32
  let c1_i32_9 : BitVec 32 := 1#32
  let arg13 : BitVec 32 := Scf.iv c0_i32_7 c1_i32_9 k0_t2
  let v11 : Index := Scalar.indexCast arg13
  let c0 : Index := 0#32
  ![v11.toNat, 0]
def k0_off4 (k0_t2 : Fin k0_t2_loop.trips) : Fin 2 → Nat :=
  let c0_i32_7 : BitVec 32 := 0#32
  let c1_i32_9 : BitVec 32 := 1#32
  let arg13 : BitVec 32 := Scf.iv c0_i32_7 c1_i32_9 k0_t2
  let v14 : Index := Scalar.indexCast arg13
  let c64 : Index := 64#32
  ![v14.toNat, 64]
def k0_off5 (k0_t2 : Fin k0_t2_loop.trips) : Fin 2 → Nat :=
  let c0_i32_7 : BitVec 32 := 0#32
  let c1_i32_9 : BitVec 32 := 1#32
  let arg13 : BitVec 32 := Scf.iv c0_i32_7 c1_i32_9 k0_t2
  let v37 : Index := Scalar.indexCast arg13
  let c16 : Index := 16#32
  ![v37.toNat, 16]
def k0_off6 (k0_t2 : Fin k0_t2_loop.trips) : Fin 2 → Nat :=
  let c0_i32_7 : BitVec 32 := 0#32
  let c1_i32_9 : BitVec 32 := 1#32
  let arg13 : BitVec 32 := Scf.iv c0_i32_7 c1_i32_9 k0_t2
  let v40 : Index := Scalar.indexCast arg13
  let c80 : Index := 80#32
  ![v40.toNat, 80]
def k0_off7 (k0_t2 : Fin k0_t2_loop.trips) : Fin 2 → Nat :=
  let c0_i32_7 : BitVec 32 := 0#32
  let c1_i32_9 : BitVec 32 := 1#32
  let arg13 : BitVec 32 := Scf.iv c0_i32_7 c1_i32_9 k0_t2
  let v63 : Index := Scalar.indexCast arg13
  let c32 : Index := 32#32
  ![v63.toNat, 32]
def k0_off8 (k0_t2 : Fin k0_t2_loop.trips) : Fin 2 → Nat :=
  let c0_i32_7 : BitVec 32 := 0#32
  let c1_i32_9 : BitVec 32 := 1#32
  let arg13 : BitVec 32 := Scf.iv c0_i32_7 c1_i32_9 k0_t2
  let v66 : Index := Scalar.indexCast arg13
  let c96 : Index := 96#32
  ![v66.toNat, 96]
def k0_off9 (k0_t2 : Fin k0_t2_loop.trips) : Fin 2 → Nat :=
  let c0_i32_7 : BitVec 32 := 0#32
  let c1_i32_9 : BitVec 32 := 1#32
  let arg13 : BitVec 32 := Scf.iv c0_i32_7 c1_i32_9 k0_t2
  let v89 : Index := Scalar.indexCast arg13
  let c48 : Index := 48#32
  ![v89.toNat, 48]
def k0_off10 (k0_t2 : Fin k0_t2_loop.trips) : Fin 2 → Nat :=
  let c0_i32_7 : BitVec 32 := 0#32
  let c1_i32_9 : BitVec 32 := 1#32
  let arg13 : BitVec 32 := Scf.iv c0_i32_7 c1_i32_9 k0_t2
  let v92 : Index := Scalar.indexCast arg13
  let c112 : Index := 112#32
  ![v92.toNat, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S320000x128 : Shape := ⟨2, ![320000, 128]⟩
abbrev S320000 : Shape := ⟨1, ![320000]⟩
abbrev S1024x128 : Shape := ⟨2, ![1024, 128]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x64 : Shape := ⟨2, ![320000, 64]⟩

abbrev nBuf : Space → Nat
  | .hbm => 37
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S1024x128, .f32⟩
  | .hbm, ⟨3, _⟩ => ⟨S_, .i32⟩
  | .hbm, ⟨4, _⟩ => ⟨S320000, .i32⟩
  | .hbm, ⟨5, _⟩ => ⟨S320000, .i1⟩
  | .hbm, ⟨6, _⟩ => ⟨S_, .i32⟩
  | .hbm, ⟨7, _⟩ => ⟨S320000, .i32⟩
  | .hbm, ⟨8, _⟩ => ⟨S320000, .i32⟩
  | .hbm, ⟨9, _⟩ => ⟨S320000, .i32⟩
  | .hbm, ⟨10, _⟩ => ⟨S320000x1, .i32⟩
  | .hbm, ⟨11, _⟩ => ⟨S1, .i32⟩
  | .hbm, ⟨12, _⟩ => ⟨S_, .i32⟩
  | .hbm, ⟨13, _⟩ => ⟨S320000x1, .i32⟩
  | .hbm, ⟨14, _⟩ => ⟨S320000x1, .i1⟩
  | .hbm, ⟨15, _⟩ => ⟨S1x1, .i32⟩
  | .hbm, ⟨16, _⟩ => ⟨S320000x1, .i32⟩
  | .hbm, ⟨17, _⟩ => ⟨S320000x1, .i1⟩
  | .hbm, ⟨18, _⟩ => ⟨S320000x1, .i1⟩
  | .hbm, ⟨19, _⟩ => ⟨S_, .i1⟩
  | .hbm, ⟨20, _⟩ => ⟨S320000, .i1⟩
  | .hbm, ⟨21, _⟩ => ⟨S320000x128, .f32⟩
  | .hbm, ⟨22, _⟩ => ⟨S320000x128, .i1⟩
  | .hbm, ⟨23, _⟩ => ⟨S_, .f32⟩
  | .hbm, ⟨24, _⟩ => ⟨S320000x128, .f32⟩
  | .hbm, ⟨25, _⟩ => ⟨S320000x128, .f32⟩
  | .hbm, ⟨26, _⟩ => ⟨S320000x64, .f32⟩
  | .hbm, ⟨27, _⟩ => ⟨S320000x64, .f32⟩
  | .hbm, ⟨28, _⟩ => ⟨S320000x64, .f32⟩
  | .hbm, ⟨29, _⟩ => ⟨S320000x64, .f32⟩
  | .hbm, ⟨30, _⟩ => ⟨S320000x64, .f32⟩
  | .hbm, ⟨31, _⟩ => ⟨S320000x64, .f32⟩
  | .hbm, ⟨32, _⟩ => ⟨S320000x64, .f32⟩
  | .hbm, ⟨33, _⟩ => ⟨S320000x64, .f32⟩
  | .hbm, ⟨34, _⟩ => ⟨S320000x64, .f32⟩
  | .hbm, ⟨35, _⟩ => ⟨S320000x64, .f32⟩
  | .hbm, ⟨36, _⟩ => ⟨S320000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩

abbrev nD : Nat := 1
abbrev τ : Topo := Topo.v7x

variable {F : FTy → Type} [FloatOps F]
-- ==== Proof.Product.lean ====
/-
  The mathematics of the certificate, apart from any program: the product of two rows read as complex numbers, and the
  whole result the kernel is proved to leave.

  A row has 128 entries: its first half holds real parts, its second half imaginary parts. `cmul w s` is the row of the
  products, written with the float operations in the order both programs use. `scaled emb idx tab` is the result: row
  `r` is the product of row `idx r` of the table with row `r` of the embeddings. Everything is generic in the float
  values, so one statement serves the words and the extended reals.
-/
module

public import Idealize.ShloMosaic.PureOps

@[expose] public section

noncomputable section

namespace Cert.Proof.Product

open Idealize.ShloMosaic

variable {F : FTy → Type} {α : Type}

/-- An array of `n` rows of 128 entries. -/
abbrev Mat (n : ℕ) : Shape := ⟨2, ![n, 128]⟩
/-- A list of `n` entries. -/
abbrev Lst (n : ℕ) : Shape := ⟨1, ![n]⟩

/-- The index of entry `j` of row `i`. -/
def at2 {n : ℕ} (i : Fin n) (j : Fin 128) : (Mat n).Idx := fun | 0 => i | 1 => j
/-- The index of entry `i` of a list. -/
def at1 {n : ℕ} (i : Fin n) : (Lst n).Idx := fun | 0 => i

/-- An index of an array is its row's and its column's. -/
theorem at2_eta {n : ℕ} (x : (Mat n).Idx) : at2 (x 0) (x 1) = x := funext fun | 0 => rfl | 1 => rfl
/-- An index of a list is its one coordinate's. -/
theorem at1_eta {n : ℕ} (x : (Lst n).Idx) : at1 (x 0) = x := funext fun | 0 => rfl

/-- Row `i` of an array. -/
def rowOf {n : ℕ} (f : (Mat n).Idx → α) (i : Fin n) : Fin 128 → α := fun j => f (at2 i j)

variable [FloatOps F]

/-- The product of two rows read as complex numbers: entry `j` of the first half is a real part, of the second half an
    imaginary part. -/
def cmul (w s : Fin 128 → F .f32) (j : Fin 128) : F .f32 :=
  if h : j.val < 64 then
    FloatOps.subf (FloatOps.mulf (w j) (s j)) (FloatOps.mulf (w ⟨j.val + 64, by omega⟩) (s ⟨j.val + 64, by omega⟩))
  else
    FloatOps.addf (FloatOps.mulf (w ⟨j.val - 64, by omega⟩) (s j)) (FloatOps.mulf (w j) (s ⟨j.val - 64, by omega⟩))

/-- The product in the first half: a real part. -/
theorem cmul_lo (w s : Fin 128 → F .f32) (j : Fin 128) (h : j.val < 64) :
    cmul w s j = FloatOps.subf (FloatOps.mulf (w j) (s j)) (FloatOps.mulf (w ⟨j.val + 64, by omega⟩) (s ⟨j.val + 64, by omega⟩)) :=
  dif_pos h
/-- The product in the second half: an imaginary part. -/
theorem cmul_hi (w s : Fin 128 → F .f32) (j : Fin 128) (h : ¬ j.val < 64) :
    cmul w s j = FloatOps.addf (FloatOps.mulf (w ⟨j.val - 64, by omega⟩) (s j)) (FloatOps.mulf (w j) (s ⟨j.val - 64, by omega⟩)) :=
  dif_neg h

/-- Two arrays of rows multiplied row by row. -/
def prodRows {n : ℕ} (fw fs : (Mat n).Idx → F .f32) : (Mat n).Idx → F .f32 := fun y => cmul (rowOf fw (y 0)) (rowOf fs (y 0)) (y 1)

/-- The table row that entry `r` of the list of types names (its word, kept below 1024 so that this is a row whatever
    the list holds). -/
def typ (idx : (Lst 320000).Idx → BitVec 32) (r : Fin 320000) : Fin 1024 := ⟨(idx (at1 r)).toNat % 1024, Nat.mod_lt _ (by decide)⟩

/-- The result: row `r` is the product of the table's row `idx r` with the embeddings' row `r`. -/
def scaled (emb : (Mat 320000).Idx → F .f32) (idx : (Lst 320000).Idx → BitVec 32) (tab : (Mat 1024).Idx → F .f32) :
    (Mat 320000).Idx → F .f32 :=
  fun x => cmul (rowOf tab (typ idx (x 0))) (rowOf emb (x 0)) (x 1)

/-! ## One group of sixteen columns

A kernel computes a row sixteen columns at a time: it reads the group at column `c` and the group at column `c + 64` of
both rows, flattens them, multiplies, and stores the real parts at `c`, the imaginary parts at `c + 64`. -/

/-- Sixteen consecutive entries of one row, as an array of one row. -/
abbrev Grp : Shape := ⟨2, ![1, 16]⟩
/-- The same sixteen entries as a list. -/
abbrev Flat : Shape := ⟨1, ![16]⟩

/-- The real parts of a group: `c d` the factor's low and high groups, `a b` the other row's. -/
def reGroup (h : Grp.ShapeCasts Flat) (h' : Flat.ShapeCasts Grp) (a b c d : Grp.Idx → F .f32) : Grp.Idx → F .f32 :=
  shapeCast Grp (subf (mulf (shapeCast Flat c h) (shapeCast Flat a h)) (mulf (shapeCast Flat d h) (shapeCast Flat b h))) h'
/-- The imaginary parts of a group. -/
def imGroup (h : Grp.ShapeCasts Flat) (h' : Flat.ShapeCasts Grp) (a b c d : Grp.Idx → F .f32) : Grp.Idx → F .f32 :=
  shapeCast Grp (addf (mulf (shapeCast Flat c h) (shapeCast Flat b h)) (mulf (shapeCast Flat d h) (shapeCast Flat a h))) h'

/-- The real parts, entry by entry: flattening and back is the identity. -/
theorem reGroup_apply (h : Grp.ShapeCasts Flat) (h' : Flat.ShapeCasts Grp) (a b c d : Grp.Idx → F .f32) (x : Grp.Idx) :
    reGroup h h' a b c d x = FloatOps.subf (FloatOps.mulf (c x) (a x)) (FloatOps.mulf (d x) (b x)) := by
  simp only [reGroup, shapeCast, subf, mulf, Shape.reshapeEquiv_reshapeEquiv, Shape.reshapeEquiv_self]
/-- The imaginary parts, entry by entry. -/
theorem imGroup_apply (h : Grp.ShapeCasts Flat) (h' : Flat.ShapeCasts Grp) (a b c d : Grp.Idx → F .f32) (x : Grp.Idx) :
    imGroup h h' a b c d x = FloatOps.addf (FloatOps.mulf (c x) (b x)) (FloatOps.mulf (d x) (a x)) := by
  simp only [imGroup, shapeCast, addf, mulf, Shape.reshapeEquiv_reshapeEquiv, Shape.reshapeEquiv_self]

/-- The group of an array at the given offsets. -/
def band {n : ℕ} (f : (Mat n).Idx → α) (off : Fin 2 → ℕ) (inb : ∀ a, off a + Grp.size a ≤ (Mat n).size a) : Grp.Idx → α :=
  fun x => f ((Rect.unit (s := Mat n) off Grp.size inb).emb x)

/-- An entry of the group at row `k`, column `c` is that row's entry. -/
theorem band_eq {n : ℕ} (f : (Mat n).Idx → α) {off : Fin 2 → ℕ} (inb : ∀ a, off a + Grp.size a ≤ (Mat n).size a) (x : Grp.Idx)
    {k c : ℕ} (ho : off = ![k, c]) (i : Fin n) (j : Fin 128) (hi : i.val = k) (hj : j.val = c + (x 1).val) :
    band f off inb x = rowOf f i j := by
  subst ho
  refine congrArg f (funext fun a => Fin.ext ?_)
  match a with
  | 0 => show k + 1 * (x 0).val = i.val; have : (x 0).val < 1 := (x 0).isLt; omega
  | 1 => show c + 1 * (x 1).val = j.val; omega

variable {n : ℕ} (h : Grp.ShapeCasts Flat) (h' : Flat.ShapeCasts Grp) (fw fs : (Mat n).Idx → F .f32) {off off' : Fin 2 → ℕ}
  (inb : ∀ a, off a + Grp.size a ≤ (Mat n).size a) (inb' : ∀ a, off' a + Grp.size a ≤ (Mat n).size a) {k c : ℕ}

/-- What is stored at column `c` of row `k` is that row's product there: `c` a column of the first half. -/
theorem re_piece (hc : c + 16 ≤ 64) (ho : off = ![k, c]) (ho' : off' = ![k, c + 64]) (x : Grp.Idx) :
    reGroup h h' (band fs off inb) (band fs off' inb') (band fw off inb) (band fw off' inb') x
      = prodRows fw fs ((Rect.unit (s := Mat n) off Grp.size inb).emb x) := by
  have hx : (x 1).val < 16 := (x 1).isLt
  have hx0 : (x 0).val < 1 := (x 0).isLt
  set y : (Mat n).Idx := (Rect.unit (s := Mat n) off Grp.size inb).emb x with hy
  have h0 : (y 0).val = k := by subst ho; show k + 1 * (x 0).val = k; omega
  have h1 : (y 1).val = c + (x 1).val := by subst ho; show c + 1 * (x 1).val = _; omega
  have hy1 : (y 1).val < 64 := by omega
  show _ = cmul (rowOf fw (y 0)) (rowOf fs (y 0)) (y 1)
  rw [reGroup_apply, cmul_lo _ _ (y 1) hy1, band_eq fs inb x ho (y 0) (y 1) h0 h1, band_eq fw inb x ho (y 0) (y 1) h0 h1,
    band_eq fs inb' x ho' (y 0) ⟨(y 1).val + 64, by omega⟩ h0 (by simp only [h1]; omega),
    band_eq fw inb' x ho' (y 0) ⟨(y 1).val + 64, by omega⟩ h0 (by simp only [h1]; omega)]

/-- What is stored at column `c + 64` of row `k` is that row's product there. -/
theorem im_piece (hc : c + 16 ≤ 64) (ho : off = ![k, c]) (ho' : off' = ![k, c + 64]) (x : Grp.Idx) :
    imGroup h h' (band fs off inb) (band fs off' inb') (band fw off inb) (band fw off' inb') x
      = prodRows fw fs ((Rect.unit (s := Mat n) off' Grp.size inb').emb x) := by
  have hx : (x 1).val < 16 := (x 1).isLt
  have hx0 : (x 0).val < 1 := (x 0).isLt
  set y : (Mat n).Idx := (Rect.unit (s := Mat n) off' Grp.size inb').emb x with hy
  have h0 : (y 0).val = k := by subst ho'; show k + 1 * (x 0).val = k; omega
  have h1 : (y 1).val = c + 64 + (x 1).val := by subst ho'; show c + 64 + 1 * (x 1).val = _; omega
  have hy1 : ¬ (y 1).val < 64 := by omega
  have hy2 : (y 1).val < 128 := (y 1).isLt
  show _ = cmul (rowOf fw (y 0)) (rowOf fs (y 0)) (y 1)
  rw [imGroup_apply, cmul_hi _ _ (y 1) hy1, band_eq fs inb' x ho' (y 0) (y 1) h0 h1, band_eq fw inb' x ho' (y 0) (y 1) h0 h1,
    band_eq fs inb x ho (y 0) ⟨(y 1).val - 64, by omega⟩ h0 (by simp only [h1]; omega),
    band_eq fw inb x ho (y 0) ⟨(y 1).val - 64, by omega⟩ h0 (by simp only [h1]; omega)]

/-- The group at row `k` holds no entry of an earlier row. -/
theorem not_mem_grp {n : ℕ} {off : Fin 2 → ℕ} (inb : ∀ a, off a + Grp.size a ≤ (Mat n).size a) {k c : ℕ} (ho : off = ![k, c])
    (y : (Mat n).Idx) (hy : (y 0).val < k) : y ∉ (Rect.unit (s := Mat n) off Grp.size inb).set := by
  subst ho
  rw [Rect.mem_set_unit]
  exact fun hall => absurd (hall 0).1 (Nat.not_le.mpr hy)

/-- The group at row `k`, column `c` holds the sixteen entries of that row from `c` on. -/
theorem mem_grp {n : ℕ} {off : Fin 2 → ℕ} (inb : ∀ a, off a + Grp.size a ≤ (Mat n).size a) {k c : ℕ} (ho : off = ![k, c])
    (y : (Mat n).Idx) (h0 : (y 0).val = k) (h1 : c ≤ (y 1).val) (h2 : (y 1).val < c + 16) :
    y ∈ (Rect.unit (s := Mat n) off Grp.size inb).set := by
  subst ho
  rw [Rect.mem_set_unit]
  intro a
  match a with
  | 0 => exact ⟨h0.ge, by show (y 0).val < k + 1; omega⟩
  | 1 => exact ⟨h1, h2⟩

end Cert.Proof.Product

end
-- ==== Proof.IdealRows.lean ====
/-
  One row of the product. The kernel's inner loop computes a row sixteen columns at a time, eight groups in all: four of
  real parts and four of imaginary parts. `row_trip` says that one trip of that loop, run when the first `k` rows of the
  product buffer hold the products of the operand buffers' rows, leaves the first `k + 1` rows holding them. The float
  values are a parameter, so the statement serves the words and the extended reals.
-/
module

public import proofs.«01_k».proof.Defs
public import proofs.«01_k».proof.Proof.Product
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.WritesUnit
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen Cert.Proof.Product

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The program has no variant to choose. -/
abbrev 𝒱₀ : Variants := Variants.none
/-- The handshake cells of the launch, as ghost state. -/
abbrev UH : Type := URounds (GSem nD τ sig) ℕ
/-- The ghost state of the whole proof: the handshakes and a supply of counters. -/
abbrev UU : Type := UH × Counters

local notation "𝕄" => MT nD τ sig (HIx 1) (Elt F) ℕ UU ℕ

local notation "eV" => (Memref.whole Cert.KernelIdeal.main_arg0_scv : Memref Cert.KernelIdeal.sig Kind.scVector Space.hbm Cert.KernelIdeal.S320000x128 EltTy.f32)
local notation "iV" => (Memref.whole Cert.KernelIdeal.main_arg1_scv : Memref Cert.KernelIdeal.sig Kind.scVector Space.hbm Cert.KernelIdeal.S320000 EltTy.i32)
local notation "tV" => (Memref.whole Cert.KernelIdeal.main_arg2_scv : Memref Cert.KernelIdeal.sig Kind.scVector Space.hbm Cert.KernelIdeal.S1024x128 EltTy.f32)
local notation "oV" => (Memref.whole Cert.KernelIdeal.main_v0_scv : Memref Cert.KernelIdeal.sig Kind.scVector Space.hbm Cert.KernelIdeal.S320000x128 EltTy.f32)
local notation "bI" => (Memref.whole Cert.KernelIdeal.cc0_scratch0 : Memref Cert.KernelIdeal.sig Kind.scVector Space.vmem Cert.KernelIdeal.S80 EltTy.i32)
local notation "bW" => (Memref.whole Cert.KernelIdeal.cc0_scratch1 : Memref Cert.KernelIdeal.sig Kind.scVector Space.vmem Cert.KernelIdeal.S80x128 EltTy.f32)
local notation "bS" => (Memref.whole Cert.KernelIdeal.cc0_scratch2 : Memref Cert.KernelIdeal.sig Kind.scVector Space.vmem Cert.KernelIdeal.S80x128 EltTy.f32)
local notation "bO" => (Memref.whole Cert.KernelIdeal.cc0_scratch3 : Memref Cert.KernelIdeal.sig Kind.scVector Space.vmem Cert.KernelIdeal.S80x128 EltTy.f32)

variable [FloatOps F]

section Row

variable (d : Dev nD) (L : grid0.Coords)

/-- The core of grid point `L`. -/
abbrev cV (L : grid0.Coords) : Fin τ.nSC := (L 0).castLE hcore0
/-- The subcore of grid point `L`. -/
abbrev jV (L : grid0.Coords) : Fin τ.nSub := (L 1).castLE hsub0

/-- The first `k` rows of the product buffer hold the products of the rows of the two operand buffers. -/
def RowsDone (k : ℕ) (fw fs fo : S80x128.Idx → F .f32) : Prop :=
  ∀ x : S80x128.Idx, (x 0).val < k → fo x = prodRows (n := 80) fw fs x

set_option maxHeartbeats 4000000 in
/-- One trip of the inner loop computes row `k`: from the first `k` rows of the product buffer holding the products to the
    first `k + 1` rows, both operand buffers unchanged. -/
theorem row_trip (k : Fin k0_t2_loop.trips) (acc : BitVec 32) (fw fs fo : S80x128.Idx → F .f32) (h : RowsDone k.val fw fs fo) :
    iprop(((bW).view.loc (V d (cV L) (jV L)) ↦{fullShare} fw) ∗ ((bS).view.loc (V d (cV L) (jV L)) ↦{fullShare} fs)
        ∗ ((bO).view.loc (V d (cV L) (jV L)) ↦{fullShare} fo))
      ⊢ (wp frame (wpE (defs₀ (F := F)) 𝒱₀ (V d (cV L) (jV L)) none) Set.univ
          (k0_t2_body L eV (Memref.isWhole_whole _) iV (Memref.isWhole_whole _) tV (Memref.isWhole_whole _) oV (Memref.isWhole_whole _)
            bI (Memref.isWhole_whole _) bW (Memref.isWhole_whole _) bS (Memref.isWhole_whole _) bO (Memref.isWhole_whole _)
            cc0_scratch4 cc0_scoped0 cc0_scoped1 cc0_scoped2 k acc)
          fun _ => iprop(((bW).view.loc (V d (cV L) (jV L)) ↦{fullShare} fw) ∗ ((bS).view.loc (V d (cV L) (jV L)) ↦{fullShare} fs)
            ∗ ∃ fo' : S80x128.Idx → F .f32, ⌜RowsDone (k.val + 1) fw fs fo'⌝ ∗ ((bO).view.loc (V d (cV L) (jV L)) ↦{fullShare} fo')) : sProp 𝕄) := by
  unfold k0_t2_body
  iintro ⟨Hw, Hs, Ho⟩
  sl_exec_parts
  sl_step
  isplitl [Hw]; · iexact Hw
  isplitl [Hs]; · iexact Hs
  iexists _
  isplitr
  swap; · iexact Ho
  ipureintro
  sl_unfold_run_names
  intro y hy
  refine (congrFun (View.read_whole (Val := Elt F) (cc0_scratch3 : Ref sig .scVector) _) y).symm.trans ?_
  by_cases hk : (y 0).val < k.val
  · refine (View.read_writes_apply_of_forall_not_mem _ _ y _ ?_).trans (h y hk)
    have hm := fun {c : ℕ} {off : Fin 2 → ℕ} (inb : ∀ a, off a + Grp.size a ≤ (Mat 80).size a) (ho : off = ![k.val, c]) =>
      not_mem_grp inb ho y hk
    exact List.forall_mem_cons.2 ⟨hm (k0_off10_inb k) (k0_off10_eq k), List.forall_mem_cons.2 ⟨hm (k0_off9_inb k) (k0_off9_eq k),
      List.forall_mem_cons.2 ⟨hm (k0_off8_inb k) (k0_off8_eq k), List.forall_mem_cons.2 ⟨hm (k0_off7_inb k) (k0_off7_eq k),
      List.forall_mem_cons.2 ⟨hm (k0_off6_inb k) (k0_off6_eq k), List.forall_mem_cons.2 ⟨hm (k0_off5_inb k) (k0_off5_eq k),
      List.forall_mem_cons.2 ⟨hm (k0_off4_inb k) (k0_off4_eq k), List.forall_mem_cons.2 ⟨hm (k0_off3_inb k) (k0_off3_eq k), List.forall_mem_nil _⟩⟩⟩⟩⟩⟩⟩⟩
  · have h0 : (y 0).val = k.val := by omega
    refine View.read_writes_apply_of_pieces (Val := Elt F) (e := .f32) _ _ (prodRows (n := 80) fw fs) _ ?_ y ?_
    · have re := fun {off off' : Fin 2 → ℕ} {c : ℕ} (inb inb') hc ho ho' =>
        re_piece (n := 80) (off := off) (off' := off') (c := c) (k := k.val) shapeCasts_S1x16_S16 shapeCasts_S16_S1x16 fw fs inb inb' hc ho ho'
      have im := fun {off off' : Fin 2 → ℕ} {c : ℕ} (inb inb') hc ho ho' =>
        im_piece (n := 80) (off := off) (off' := off') (c := c) (k := k.val) shapeCasts_S1x16_S16 shapeCasts_S16_S1x16 fw fs inb inb' hc ho ho'
      exact List.forall_mem_cons.2 ⟨im (k0_off9_inb k) (k0_off10_inb k) (by decide) (k0_off9_eq k) (k0_off10_eq k),
        List.forall_mem_cons.2 ⟨re (k0_off9_inb k) (k0_off10_inb k) (by decide) (k0_off9_eq k) (k0_off10_eq k),
        List.forall_mem_cons.2 ⟨im (k0_off7_inb k) (k0_off8_inb k) (by decide) (k0_off7_eq k) (k0_off8_eq k),
        List.forall_mem_cons.2 ⟨re (k0_off7_inb k) (k0_off8_inb k) (by decide) (k0_off7_eq k) (k0_off8_eq k),
        List.forall_mem_cons.2 ⟨im (k0_off5_inb k) (k0_off6_inb k) (by decide) (k0_off5_eq k) (k0_off6_eq k),
        List.forall_mem_cons.2 ⟨re (k0_off5_inb k) (k0_off6_inb k) (by decide) (k0_off5_eq k) (k0_off6_eq k),
        List.forall_mem_cons.2 ⟨im (k0_off3_inb k) (k0_off4_inb k) (by decide) (k0_off3_eq k) (k0_off4_eq k),
        List.forall_mem_cons.2 ⟨re (k0_off3_inb k) (k0_off4_inb k) (by decide) (k0_off3_eq k) (k0_off4_eq k),
        List.forall_mem_nil _⟩⟩⟩⟩⟩⟩⟩⟩
    · have hm := fun {c : ℕ} {off : Fin 2 → ℕ} (inb : ∀ a, off a + Grp.size a ≤ (Mat 80).size a) (ho : off = ![k.val, c])
        (h1 : c ≤ (y 1).val) (h2 : (y 1).val < c + 16) => mem_grp inb ho y h0 h1 h2
      have h128 : (y 1).val < 128 := (y 1).isLt
      rcases (show (112 ≤ (y 1).val ∧ (y 1).val < 112 + 16) ∨ (48 ≤ (y 1).val ∧ (y 1).val < 48 + 16)
          ∨ (96 ≤ (y 1).val ∧ (y 1).val < 96 + 16) ∨ (32 ≤ (y 1).val ∧ (y 1).val < 32 + 16)
          ∨ (80 ≤ (y 1).val ∧ (y 1).val < 80 + 16) ∨ (16 ≤ (y 1).val ∧ (y 1).val < 16 + 16)
          ∨ (64 ≤ (y 1).val ∧ (y 1).val < 64 + 16) ∨ (0 ≤ (y 1).val ∧ (y 1).val < 0 + 16) by omega)
        with ⟨h1, h2⟩ | ⟨h1, h2⟩ | ⟨h1, h2⟩ | ⟨h1, h2⟩ | ⟨h1, h2⟩ | ⟨h1, h2⟩ | ⟨h1, h2⟩ | ⟨h1, h2⟩
      · exact ⟨_, .head _, hm (k0_off10_inb k) (k0_off10_eq k) h1 h2⟩
      · exact ⟨_, .tail _ (.head _), hm (k0_off9_inb k) (k0_off9_eq k) h1 h2⟩
      · exact ⟨_, .tail _ (.tail _ (.head _)), hm (k0_off8_inb k) (k0_off8_eq k) h1 h2⟩
      · exact ⟨_, .tail _ (.tail _ (.tail _ (.head _))), hm (k0_off7_inb k) (k0_off7_eq k) h1 h2⟩
      · exact ⟨_, .tail _ (.tail _ (.tail _ (.tail _ (.head _)))), hm (k0_off6_inb k) (k0_off6_eq k) h1 h2⟩
      · exact ⟨_, .tail _ (.tail _ (.tail _ (.tail _ (.tail _ (.head _))))), hm (k0_off5_inb k) (k0_off5_eq k) h1 h2⟩
      · exact ⟨_, .tail _ (.tail _ (.tail _ (.tail _ (.tail _ (.tail _ (.head _)))))), hm (k0_off4_inb k) (k0_off4_eq k) h1 h2⟩
      · exact ⟨_, .tail _ (.tail _ (.tail _ (.tail _ (.tail _ (.tail _ (.tail _ (.head _))))))), hm (k0_off3_inb k) (k0_off3_eq k) h1 h2⟩

end Row

end Cert.Proof.KernelIdeal
end
-- ==== Proof.IdealChunk.lean ====
/-
  One chunk of 80 rows of a tile. The tile copies the chunk's list of types in, copies the chunk's rows of the embeddings
  in, gathers the rows of the table that the list names, multiplies row by row, and copies the products out to the chunk's
  rows of the result. `chunk_trip` says so: one trip of the outer loop, from the chunk's rows of the result as they were to
  those rows at `outVal`, everything else as it was. It asks that every word of the list of types names a row of the table
  (`PreOK`): a gather through any other word has no row to read.
-/
module

public import proofs.«01_k».proof.Defs
public import proofs.«01_k».proof.Proof.Product
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.WritesUnit
public import Idealize.ShloMosaic.Lib.Tactic
public import proofs.«01_k».proof.Proof.IdealRows
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen Cert.Proof.Product

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eV" => (Memref.whole Cert.KernelIdeal.main_arg0_scv : Memref Cert.KernelIdeal.sig Kind.scVector Space.hbm Cert.KernelIdeal.S320000x128 EltTy.f32)
local notation "iV" => (Memref.whole Cert.KernelIdeal.main_arg1_scv : Memref Cert.KernelIdeal.sig Kind.scVector Space.hbm Cert.KernelIdeal.S320000 EltTy.i32)
local notation "tV" => (Memref.whole Cert.KernelIdeal.main_arg2_scv : Memref Cert.KernelIdeal.sig Kind.scVector Space.hbm Cert.KernelIdeal.S1024x128 EltTy.f32)
local notation "oV" => (Memref.whole Cert.KernelIdeal.main_v0_scv : Memref Cert.KernelIdeal.sig Kind.scVector Space.hbm Cert.KernelIdeal.S320000x128 EltTy.f32)
local notation "bI" => (Memref.whole Cert.KernelIdeal.cc0_scratch0 : Memref Cert.KernelIdeal.sig Kind.scVector Space.vmem Cert.KernelIdeal.S80 EltTy.i32)
local notation "bW" => (Memref.whole Cert.KernelIdeal.cc0_scratch1 : Memref Cert.KernelIdeal.sig Kind.scVector Space.vmem Cert.KernelIdeal.S80x128 EltTy.f32)
local notation "bS" => (Memref.whole Cert.KernelIdeal.cc0_scratch2 : Memref Cert.KernelIdeal.sig Kind.scVector Space.vmem Cert.KernelIdeal.S80x128 EltTy.f32)
local notation "bO" => (Memref.whole Cert.KernelIdeal.cc0_scratch3 : Memref Cert.KernelIdeal.sig Kind.scVector Space.vmem Cert.KernelIdeal.S80x128 EltTy.f32)

variable [FloatOps F]

/-- The labels of the program's definitions. -/
abbrev ΛP : Labels := Pipeline.Sig Λ₀ (Fin 0) fun p => (pcfgs (F := F) p).Adm
/-- How the program launches its one task. -/
abbrev K : SparseCore.Cfg τ sig (ΛP (F := F)) 1 := sc (F := F)

variable (m : (ℓ : Loc nD τ sig) → Buf (Elt F) ℓ)

/-- Where device `d` holds the embeddings. -/
abbrev eLoc (d : Dev nD) : Loc nD τ sig := (SparseCore.T d).loc main_arg0
/-- Where device `d` holds the list of types. -/
abbrev iLoc (d : Dev nD) : Loc nD τ sig := (SparseCore.T d).loc main_arg1
/-- Where device `d` holds the table. -/
abbrev tLoc (d : Dev nD) : Loc nD τ sig := (SparseCore.T d).loc main_arg2
/-- Where device `d` holds the result. -/
abbrev oLoc (d : Dev nD) : Loc nD τ sig := (SparseCore.T d).loc main_v0

/-- What device `d`'s result ends at. -/
def outVal (d : Dev nD) : Buf (Elt F) (oLoc d) := scaled (F := F) (m (eLoc d)) (m (iLoc d)) (m (tLoc d))

/-- Every word of the list of types names a row of the table. -/
def PreOK : Prop := ∀ (d : Dev nD) (j : S320000.Idx), (m (iLoc d) j).toNat < 1024

section Chunk

variable (d : Dev nD) (L : grid0.Coords)

/-- The first row of the tile's stretch of 10000 rows. -/
def base (L : grid0.Coords) : ℕ := 20000 * (L 1).val + 10000 * (L 0).val
/-- The rows `[b, b + n)`. -/
def rowsFrom (b n : ℕ) : Finset S320000x128.Idx := Finset.univ.filter fun x => b ≤ (x 0).val ∧ (x 0).val < b + n
/-- The result with the rows below `b` written. -/
def upTo (b : ℕ) : Buf (Elt F) (oLoc d) := fun x : S320000x128.Idx => if (x 0).val < b then outVal m d x else m (oLoc d) x

/-- The row of the whole array that is row `r` of the tile's chunk `k`. -/
def rowIx (k : Fin k0_t1_loop.trips) (r : Fin 80) : Fin 320000 :=
  ⟨base L + 80 * k.val + r.val, by
    have := k.isLt; have h1 := (L 0).isLt; have h2 := (L 1).isLt; have hk : k0_t1_loop.trips ≤ 125 := k0_t1_abs.2.1
    have e1 : grid0.bound 0 = 2 := rfl; have e2 : grid0.bound 1 = 16 := rfl
    unfold base; omega⟩

/-- The chunk's list of types. -/
def listOf (k : Fin k0_t1_loop.trips) : Buf (Elt F) ((bI).view.loc (V d (cV L) (jV L))) := fun x : S80.Idx => m (iLoc d) (at1 (rowIx L k (x 0)))
/-- The chunk's rows of the embeddings. -/
def sourceRows (k : Fin k0_t1_loop.trips) : Buf (Elt F) ((bS).view.loc (V d (cV L) (jV L))) := fun x : S80x128.Idx => m (eLoc d) (at2 (rowIx L k (x 0)) (x 1))
/-- The chunk's rows of the table: the rows its list names. -/
def factorRows (k : Fin k0_t1_loop.trips) : Buf (Elt F) ((bW).view.loc (V d (cV L) (jV L))) :=
  fun x : S80x128.Idx => m (tLoc d) (at2 (typ (m (iLoc d)) (rowIx L k (x 0))) (x 1))

/-- The part of the list of types that chunk `k` copies in. -/
abbrev iChunk (k : Fin k0_t1_loop.trips) : Memref sig .scVector .hbm S80 .i32 :=
  (iV).slice (Rect.unit (s := S320000) (k0_off1 L k) S80.size (k0_off1_inb L k)) (fun _ => rfl)
/-- The rows of the embeddings that chunk `k` copies in. -/
abbrev eChunk (k : Fin k0_t1_loop.trips) : Memref sig .scVector .hbm S80x128 .f32 :=
  (eV).slice (Rect.unit (s := S320000x128) (k0_off2 L k) S80x128.size (k0_off2_inb L k)) (fun _ => rfl)
/-- The rows of the result that chunk `k` copies out to. -/
abbrev oChunk (k : Fin k0_t1_loop.trips) : Memref sig .scVector .hbm S80x128 .f32 :=
  (oV).slice (Rect.unit (s := S320000x128) (k0_off2 L k) S80x128.size (k0_off2_inb L k)) (fun _ => rfl)
/-- The table, all of it, as the gather names it. -/
abbrev tAll : Memref sig .scVector .hbm S1024x128 .f32 :=
  (tV).slice (Rect.unit (s := S1024x128) ![0, 0] S1024x128.size inb_S1024x128_S1024x128_0_0) (fun _ => rfl)

omit [FloatOps F] in
/-- Entry `r` of the chunk's list is the list's entry at `rowIx L k r`. -/
theorem emb_iChunk (k : Fin k0_t1_loop.trips) (x : S80.Idx) : (iChunk L k).view.emb x = at1 (rowIx L k (x 0)) := by
  funext a; fin_cases a; apply Fin.ext
  show k0_off1 L k 0 + 1 * (x 0).val = base L + 80 * k.val + (x 0).val
  rw [k0_off1_eq]; unfold base; simp
omit [FloatOps F] in
/-- Entry `(r, j)` of the chunk's rows is the array's at row `rowIx L k r`, column `j`. -/
theorem emb_oChunk (k : Fin k0_t1_loop.trips) (x : S80x128.Idx) : (oChunk L k).view.emb x = at2 (rowIx L k (x 0)) (x 1) := by
  funext a; apply Fin.ext; fin_cases a
  · show k0_off2 L k 0 + 1 * (x 0).val = base L + 80 * k.val + (x 0).val
    rw [k0_off2_eq]; unfold base; simp
  · show k0_off2 L k 1 + 1 * (x 1).val = (x 1).val
    rw [k0_off2_eq]; simp

/-- What the copy of the list brings in. -/
theorem read_iChunk (k : Fin k0_t1_loop.trips) : (iChunk L k).view.read (Elt F) (m (iLoc d)) = listOf m d L k := by
  funext x; exact ((View.read_apply _ _).trans (cast_eq _ _)).trans (congrArg (m (iLoc d)) (emb_iChunk L k x))
/-- What the copy of the embeddings brings in. -/
theorem read_eChunk (k : Fin k0_t1_loop.trips) : (eChunk L k).view.read (Elt F) (m (eLoc d)) = sourceRows m d L k := by
  funext x; exact ((View.read_apply _ _).trans (cast_eq _ _)).trans (congrArg (m (eLoc d)) (emb_oChunk L k x))

/-- Every word of the chunk's list names a row of the table. -/
theorem list_lt (hpre : PreOK m) (k : Fin k0_t1_loop.trips) :
    ∀ x, ((bI).view.read (Elt F) (listOf m d L k) x).toNat < S1024x128.size gathers_S1024x128_S80x128.axis := by
  intro x
  rw [show (bI).view.read (Elt F) (listOf m d L k) = listOf m d L k from View.read_whole (Val := Elt F) (cc0_scratch0 : Ref sig .scVector) _]
  exact hpre d _

omit [FloatOps F] in
/-- Entry `k` of an 80-entry list in row-major order is the entry at `k`. -/
theorem word_at (k : Fin (S80.numel)) : (S80.rowMajor.symm k) 0 = (⟨k.val, lt_of_lt_of_eq k.isLt (by decide)⟩ : Fin 80) := by
  apply Fin.ext
  have h := Shape.rowMajor_val_one (d := ![80]) (S80.rowMajor.symm k)
  rw [show (⟨1, ![80]⟩ : Shape).rowMajor (S80.rowMajor.symm k) = k from S80.rowMajor.apply_symm_apply k] at h
  exact h.symm

/-- What the gather brings in: the rows of the table that the chunk's list names. -/
theorem gathered (hpre : PreOK m) (k : Fin k0_t1_loop.trips) (hn : S80.numel = S80x128.size gathers_S1024x128_S80x128.axis')
    (hin : ∀ x, ((bI).view.read (Elt F) (listOf m d L k) x).toNat < S1024x128.size gathers_S1024x128_S80x128.axis) :
    SparseCore.gatherPayload gathers_S1024x128_S80x128 ((tAll).view.read (Elt F) (m (tLoc d)))
      (SparseCore.rows ((bI).view.read (Elt F) (listOf m d L k)) hn hin) = factorRows m d L k := by
  funext x
  refine ((View.read_apply _ _).trans (cast_eq _ _)).trans (congrArg (m (tLoc d)) ?_)
  funext a; apply Fin.ext; fin_cases a
  · show 0 + 1 * ((gathers_S1024x128_S80x128.idx (SparseCore.rows ((bI).view.read (Elt F) (listOf m d L k)) hn hin) x) gathers_S1024x128_S80x128.axis).val
      = (m (iLoc d) (at1 (rowIx L k (x 0)))).toNat % 1024
    rw [Shape.Gathers.idx_axis, Nat.mod_eq_of_lt (hpre d _), Nat.zero_add, Nat.one_mul]
    show (m (iLoc d) (at1 (rowIx L k ((S80.rowMajor.symm (Fin.cast hn.symm (x 0))) 0)))).toNat = _
    rw [word_at]; rfl
  · show 0 + 1 * ((gathers_S1024x128_S80x128.idx (SparseCore.rows ((bI).view.read (Elt F) (listOf m d L k)) hn hin) x) 1).val = (x 1).val
    rw [Shape.Gathers.idx_of_ne _ _ _ _ (by decide), Nat.zero_add, Nat.one_mul]; rfl

omit [FloatOps F] in
/-- The rectangle that is all of a shape places every index at itself. -/
theorem emb_rect_whole (s : Shape) (y : s.Idx) : (Rect.whole s).emb y = y := funext fun a => Fin.ext (by
  show 0 + 1 * (y a).val = (y a).val
  rw [Nat.zero_add, Nat.one_mul])

/-- A buffer written whole holds what was written. -/
theorem written (k : Fin k0_t1_loop.trips) (w : S80x128.Idx → F .f32) (f : Buf (Elt F) ((bW).view.loc (V d (cV L) (jV L)))) :
    (bW).view.writes (Elt F) f [⟨Rect.whole cc0_scratch1.ty.shape, w⟩] = w := by
  funext y
  refine (congrFun (View.read_whole (Val := Elt F) (cc0_scratch1 : Ref sig .scVector) _) y).symm.trans ?_
  have h := View.read_writes_cons_emb (Val := Elt F) (v := (bW).view) (f := f) (Rect.whole cc0_scratch1.ty.shape) w [] y
  rw [emb_rect_whole] at h
  exact h

/-- The part of the result the chunk copies out to is its 80 rows. -/
theorem set_oChunk (k : Fin k0_t1_loop.trips) : (oChunk L k).view.set = rowsFrom (base L + 80 * k.val) 80 := by
  ext y
  rw [show (oChunk L k).view.set = (Rect.unit (s := S320000x128) (k0_off2 L k) S80x128.size (k0_off2_inb L k)).set from View.set_slice_whole _ _,
    Rect.mem_set_unit, rowsFrom, Finset.mem_filter, k0_off2_eq]
  constructor
  · intro h; have h0 := h 0; refine ⟨Finset.mem_univ _, ?_⟩; simp [base] at h0 ⊢; omega
  · rintro ⟨-, h⟩ a; fin_cases a
    · simp [base] at h ⊢; omega
    · have := (y 1).isLt; simp at this ⊢; omega

/-- What the chunk's rows multiplied are: the result's rows of the chunk. -/
theorem chunk_value (k : Fin k0_t1_loop.trips) (x : S80x128.Idx) :
    prodRows (n := 80) (factorRows m d L k) (sourceRows m d L k) x = outVal m d ((oChunk L k).view.emb x) := by
  rw [emb_oChunk]; rfl

/-- The result's rows of the chunk once the chunk's buffer is copied over them. -/
theorem chunk_written (k : Fin k0_t1_loop.trips) (fo : S80x128.Idx → F .f32)
    (h : RowsDone k0_t2_loop.trips (factorRows m d L k) (sourceRows m d L k) fo) :
    ∀ y ∈ (oChunk L k).view.set,
      (oChunk L k).view.writes (Elt F) (m (oLoc d)) [⟨Rect.whole S80x128, (bO).view.read (Elt F) fo⟩] y = outVal m d y := by
  intro y hy
  obtain ⟨x, -, rfl⟩ := Finset.mem_map.mp hy
  refine ((View.read_apply _ _).trans (cast_eq _ _)).symm.trans ?_
  have h1 := View.read_writes_cons_emb (Val := Elt F) (v := (oChunk L k).view) (f := m (oLoc d)) (Rect.whole S80x128)
    ((bO).view.read (Elt F) fo) [] x
  rw [emb_rect_whole] at h1
  refine h1.trans ((congrFun (View.read_whole (Val := Elt F) (cc0_scratch3 : Ref sig .scVector) fo) x).trans ?_)
  rw [← chunk_value]
  exact h x (lt_of_lt_of_eq (x 0).isLt (show (80 : ℕ) = k0_t2_loop.trips by decide))

set_option maxHeartbeats 4000000 in
/-- One chunk, whole: the three inputs are read through a share `q` and come back unchanged, the chunk's rows of the
    result go from what they were to `outVal`, the four buffers end at some contents, the four semaphores at zero. -/
theorem chunk_trip (hpre : PreOK m) (k : Fin k0_t1_loop.trips) (acc : BitVec 32) (q : PosShare TreeShare)
    (O : CellTallies nD τ sig (HIx 1)) (W : Waits sig (HIx 1)) :
    iprop(Transfers.MayWaits (V d (cV L) (jV L)) (default : HIx 1) O
        ∗ ((eV).view.loc (V d (cV L) (jV L)) ↦{q} m (eLoc d)) ∗ ((iV).view.loc (V d (cV L) (jV L)) ↦{q} m (iLoc d))
        ∗ ((tV).view.loc (V d (cV L) (jV L)) ↦{q} m (tLoc d))
        ∗ ((oChunk L k).view.loc (V d (cV L) (jV L)) ↦[(oChunk L k).view.set]{fullShare} m (oLoc d))
        ∗ (∃ f, (bI).view.loc (V d (cV L) (jV L)) ↦{fullShare} f) ∗ (∃ f, (bW).view.loc (V d (cV L) (jV L)) ↦{fullShare} f)
        ∗ (∃ f, (bS).view.loc (V d (cV L) (jV L)) ↦{fullShare} f) ∗ (∃ f, (bO).view.loc (V d (cV L) (jV L)) ↦{fullShare} f)
        ∗ semVal (V d (cV L) (jV L), .dma cc0_scratch4.sem) 0 ∗ semVal (V d (cV L) (jV L), .dma cc0_scoped0.sem) 0
        ∗ semVal (V d (cV L) (jV L), .dma cc0_scoped1.sem) 0 ∗ semVal (V d (cV L) (jV L), .dma cc0_scoped2.sem) 0
        ∗ owes (V d (cV L) (jV L)) O W)
      ⊢ (wp frame (wpE (defs₀ (F := F)) 𝒱₀ (V d (cV L) (jV L)) none) Set.univ
          (k0_t1_body L eV (Memref.isWhole_whole _) iV (Memref.isWhole_whole _) tV (Memref.isWhole_whole _) oV (Memref.isWhole_whole _)
            bI (Memref.isWhole_whole _) bW (Memref.isWhole_whole _) bS (Memref.isWhole_whole _) bO (Memref.isWhole_whole _)
            cc0_scratch4 cc0_scoped0 cc0_scoped1 cc0_scoped2 k acc)
          fun _ => iprop(Transfers.MayWaits (V d (cV L) (jV L)) (default : HIx 1) O
        ∗ ((eV).view.loc (V d (cV L) (jV L)) ↦{q} m (eLoc d)) ∗ ((iV).view.loc (V d (cV L) (jV L)) ↦{q} m (iLoc d))
        ∗ ((tV).view.loc (V d (cV L) (jV L)) ↦{q} m (tLoc d))
        ∗ ((oChunk L k).view.loc (V d (cV L) (jV L)) ↦[(oChunk L k).view.set]{fullShare} outVal m d)
        ∗ (∃ f, (bI).view.loc (V d (cV L) (jV L)) ↦{fullShare} f) ∗ (∃ f, (bW).view.loc (V d (cV L) (jV L)) ↦{fullShare} f)
        ∗ (∃ f, (bS).view.loc (V d (cV L) (jV L)) ↦{fullShare} f) ∗ (∃ f, (bO).view.loc (V d (cV L) (jV L)) ↦{fullShare} f)
        ∗ semVal (V d (cV L) (jV L), .dma cc0_scratch4.sem) 0 ∗ semVal (V d (cV L) (jV L), .dma cc0_scoped0.sem) 0
        ∗ semVal (V d (cV L) (jV L), .dma cc0_scoped1.sem) 0 ∗ semVal (V d (cV L) (jV L), .dma cc0_scoped2.sem) 0
        ∗ ∃ W', ⌜∀ p ∈ W', p ∈ W ∨ p.2 = none⌝ ∗ owes (V d (cV L) (jV L)) O W') : sProp 𝕄) := by
  unfold k0_t1_body
  iintro ⟨Hmw, He, Hi, Ht, Ho, ⟨%fi, HbI⟩, ⟨%fw, HbW⟩, ⟨%fs, HbS⟩, ⟨%fo, HbO⟩, HsG, HsI, HsE, HsO, HO⟩
  sl_exec
  ihave HbI' := (Entails.of_eq (congrArg (fun f => ((bI).view.loc (V d (cV L) (jV L)) ↦{fullShare} f : sProp 𝕄))
    ((View.write_whole_univ (cc0_scratch0 : Ref sig .scVector) fi (chunk_trip.sl.dma0 m d L k)).trans (read_iChunk m d L k)))) $$ HbI
  have hin := list_lt m d L hpre k
  sl_exec
  ihave HbS' := (Entails.of_eq (congrArg (fun f => ((bS).view.loc (V d (cV L) (jV L)) ↦{fullShare} f : sProp 𝕄))
    ((View.write_whole_univ (cc0_scratch2 : Ref sig .scVector) fs (chunk_trip.sl.dma0_1 m d L k)).trans (read_eChunk m d L k)))) $$ HbS
  ihave HbW' := (Entails.of_eq (congrArg (fun f => ((bW).view.loc (V d (cV L) (jV L)) ↦{fullShare} f : sProp 𝕄))
    ((written d L k (chunk_trip.sl.gather0 m d L k hin) (bW).view.junk).trans (gathered m d L hpre k _ hin)))) $$ HbW
  sl_for (fun (i : ℕ) (_ : BitVec 32) => iprop(((bW).view.loc (V d (cV L) (jV L)) ↦{fullShare} factorRows m d L k)
      ∗ ((bS).view.loc (V d (cV L) (jV L)) ↦{fullShare} sourceRows m d L k)
      ∗ ∃ fo, ⌜RowsDone i (factorRows m d L k) (sourceRows m d L k) fo⌝ ∗ ((bO).view.loc (V d (cV L) (jV L)) ↦{fullShare} fo))) $$ [HbW' HbS' HbO]
  case region =>
    intro i acc
    iintro ⟨HbW, HbS, %fo, %hfo, HbO⟩
    sl_unfold_run_names
    iapply (row_trip d L i acc (factorRows m d L k) (sourceRows m d L k) fo hfo) $$ [HbW HbS HbO]
    isplitl [HbW]; · iexact HbW
    isplitl [HbS]; · iexact HbS
    iexact HbO
  · isplitl [HbW']; · iexact HbW'
    isplitl [HbS']; · iexact HbS'
    iexists _; isplitr
    swap; · iexact HbO
    ipureintro; exact fun x h => absurd h (Nat.not_lt_zero _)
  iintro %_ ⟨HbW, HbS, %fo', %hfo, HbO⟩
  sl_exec
  ihave Ho' := (Entails.of_eq (pointsTo_congr (chunk_written m d L k fo' hfo))) $$ Ho
  sl_step
  isplitl [Hmw]; · iexact Hmw
  isplitl [He]; · iexact He
  isplitl [Hi]; · iexact Hi
  isplitl [Ht]; · iexact Ht
  isplitl [Ho']; · iexact Ho'
  isplitl [HbI']; · iexists _; iexact HbI'
  isplitl [HbW]; · iexists _; iexact HbW
  isplitl [HbS]; · iexists _; iexact HbS
  isplitl [HbO]; · iexists _; iexact HbO
  isplitl [HsG]; · iexact HsG
  isplitl [HsI]; · iexact HsI
  isplitl [HsE]; · iexact HsE
  isplitl [HsO]; · iexact HsO
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Chunk

end Cert.Proof.KernelIdeal
end
-- ==== Proof.IdealTile.lean ====
/-
  One tile. Its stretch of the result is 10000 rows, computed as 125 chunks of 80. The outer loop's invariant (`inv`) says
  which rows are already written, with their values; `tile_run` is the whole task of a tile, at a symbolic pair of core and
  subcore: its stretch of the result ends at `outVal`, the inputs are as they were, its semaphores are back at zero.
-/
module

public import proofs.«01_k».proof.Defs
public import proofs.«01_k».proof.Proof.Product
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.WritesUnit
public import Idealize.ShloMosaic.Lib.Tactic
public import proofs.«01_k».proof.Proof.IdealChunk
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen Cert.Proof.Product

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eV" => (Memref.whole Cert.KernelIdeal.main_arg0_scv : Memref Cert.KernelIdeal.sig Kind.scVector Space.hbm Cert.KernelIdeal.S320000x128 EltTy.f32)
local notation "iV" => (Memref.whole Cert.KernelIdeal.main_arg1_scv : Memref Cert.KernelIdeal.sig Kind.scVector Space.hbm Cert.KernelIdeal.S320000 EltTy.i32)
local notation "tV" => (Memref.whole Cert.KernelIdeal.main_arg2_scv : Memref Cert.KernelIdeal.sig Kind.scVector Space.hbm Cert.KernelIdeal.S1024x128 EltTy.f32)
local notation "oV" => (Memref.whole Cert.KernelIdeal.main_v0_scv : Memref Cert.KernelIdeal.sig Kind.scVector Space.hbm Cert.KernelIdeal.S320000x128 EltTy.f32)
local notation "bI" => (Memref.whole Cert.KernelIdeal.cc0_scratch0 : Memref Cert.KernelIdeal.sig Kind.scVector Space.vmem Cert.KernelIdeal.S80 EltTy.i32)
local notation "bW" => (Memref.whole Cert.KernelIdeal.cc0_scratch1 : Memref Cert.KernelIdeal.sig Kind.scVector Space.vmem Cert.KernelIdeal.S80x128 EltTy.f32)
local notation "bS" => (Memref.whole Cert.KernelIdeal.cc0_scratch2 : Memref Cert.KernelIdeal.sig Kind.scVector Space.vmem Cert.KernelIdeal.S80x128 EltTy.f32)
local notation "bO" => (Memref.whole Cert.KernelIdeal.cc0_scratch3 : Memref Cert.KernelIdeal.sig Kind.scVector Space.vmem Cert.KernelIdeal.S80x128 EltTy.f32)

variable [FloatOps F]

variable (m : (ℓ : Loc nD τ sig) → Buf (Elt F) ℓ)

section Tile

variable (d : Dev nD) (L : grid0.Coords)

/-- The semaphore the gather signals. -/
abbrev cGcell (d : Dev nD) (L : grid0.Coords) : GSem nD τ sig := (V d (cV L) (jV L), .dma cc0_scratch4.sem)
/-- The semaphore of the copy of the list of types. -/
abbrev cIcell (d : Dev nD) (L : grid0.Coords) : GSem nD τ sig := (V d (cV L) (jV L), .dma cc0_scoped0.sem)
/-- The semaphore of the copy of the embeddings. -/
abbrev cEcell (d : Dev nD) (L : grid0.Coords) : GSem nD τ sig := (V d (cV L) (jV L), .dma cc0_scoped1.sem)
/-- The semaphore of the copy out. -/
abbrev cOcell (d : Dev nD) (L : grid0.Coords) : GSem nD τ sig := (V d (cV L) (jV L), .dma cc0_scoped2.sem)

/-- The tile's own cells besides the four the kernel names. -/
abbrev restCells (d : Dev nD) (L : grid0.Coords) : Finset (GSem nD τ sig) :=
  ((((ownCells (V d (cV L) (jV L))).erase (cGcell d L)).erase (cIcell d L)).erase (cEcell d L)).erase (cOcell d L)

omit [FloatOps F] in
/-- The four cells the kernel names are among the tile's own: they are them and the rest. -/
theorem ownSems0_V :
    (ownSems0 (V d (cV L) (jV L)) : sProp 𝕄)
      = iprop(semVal (cGcell d L) 0 ∗ semVal (cIcell d L) 0 ∗ semVal (cEcell d L) 0 ∗ semVal (cOcell d L) 0
          ∗ bigSep (restCells d L) fun g => semVal g 0) := by
  have hG := (mem_ownCells (g := cGcell d L)).mpr ⟨rfl, by show (SemLoc.dma cc0_scratch4.sem : SemLoc sig).isScoped .scVector = true; decide⟩
  have hI := (mem_ownCells (g := cIcell d L)).mpr ⟨rfl, by show (SemLoc.dma cc0_scoped0.sem : SemLoc sig).isScoped .scVector = true; decide⟩
  have hE := (mem_ownCells (g := cEcell d L)).mpr ⟨rfl, by show (SemLoc.dma cc0_scoped1.sem : SemLoc sig).isScoped .scVector = true; decide⟩
  have hO := (mem_ownCells (g := cOcell d L)).mpr ⟨rfl, by show (SemLoc.dma cc0_scoped2.sem : SemLoc sig).isScoped .scVector = true; decide⟩
  have ne : ∀ s s' : SemLoc sig, s ≠ s' → ((V d (cV L) (jV L), s) : GSem nD τ sig) ≠ (V d (cV L) (jV L), s') := fun _ _ h e => h (Prod.mk.inj e).2
  have hI' := Finset.mem_erase.mpr ⟨ne (.dma cc0_scoped0.sem) (.dma cc0_scratch4.sem) (by decide), hI⟩
  have hE' := Finset.mem_erase.mpr ⟨ne (.dma cc0_scoped1.sem) (.dma cc0_scoped0.sem) (by decide),
    Finset.mem_erase.mpr ⟨ne (.dma cc0_scoped1.sem) (.dma cc0_scratch4.sem) (by decide), hE⟩⟩
  have hO' := Finset.mem_erase.mpr ⟨ne (.dma cc0_scoped2.sem) (.dma cc0_scoped1.sem) (by decide),
    Finset.mem_erase.mpr ⟨ne (.dma cc0_scoped2.sem) (.dma cc0_scoped0.sem) (by decide),
      Finset.mem_erase.mpr ⟨ne (.dma cc0_scoped2.sem) (.dma cc0_scratch4.sem) (by decide), hO⟩⟩⟩
  unfold SparseCore.Cfg.ownSems0
  rw [SparseCore.bigSep_erase' hG, SparseCore.bigSep_erase' hI', SparseCore.bigSep_erase' hE', SparseCore.bigSep_erase' hO']

/-- The tile's own buffers besides the four the kernel names. -/
abbrev restBufs (L : grid0.Coords) : Finset (DevRef τ sig) :=
  ((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)

omit [FloatOps F] in
/-- The four scratch buffers are among the tile's own: they are them, at some contents, and the rest. -/
theorem ownBufs_V :
    (ownBufs (V d (cV L) (jV L)) : sProp 𝕄)
      = iprop((∃ f, (bI).view.loc (V d (cV L) (jV L)) ↦{fullShare} f) ∗ (∃ f, (bW).view.loc (V d (cV L) (jV L)) ↦{fullShare} f)
          ∗ (∃ f, (bS).view.loc (V d (cV L) (jV L)) ↦{fullShare} f) ∗ (∃ f, (bO).view.loc (V d (cV L) (jV L)) ↦{fullShare} f)
          ∗ bigSep (restBufs L) fun b => iprop(∃ f, ((d, b) : Loc nD τ sig) ↦{fullShare} f)) := by
  have own : ∀ b : Ref sig .scVector, ((Proc.scVector (cV L) (jV L)).devRef b).owner = .proc (Proc.scVector (cV L) (jV L)) →
      (Proc.scVector (cV L) (jV L)).devRef b ∈ ownRefs (τ := τ) (.scVector (cV L) (jV L)) :=
    fun b h => SparseCore.Cfg.mem_ownRefs_of_owner (p := Proc.scVector (cV L) (jV L)) h
  have ne : ∀ b b' : Ref sig .scVector, b ≠ b' → (Proc.scVector (cV L) (jV L)).devRef b ≠ (Proc.scVector (cV L) (jV L)).devRef b' :=
    fun _ _ h e => h (Proc.devRef_injective _ e)
  have h1 := Finset.mem_erase.mpr ⟨ne cc0_scratch1 cc0_scratch0 (by decide), own cc0_scratch1 rfl⟩
  have h2 := Finset.mem_erase.mpr ⟨ne cc0_scratch2 cc0_scratch1 (by decide),
    Finset.mem_erase.mpr ⟨ne cc0_scratch2 cc0_scratch0 (by decide), own cc0_scratch2 rfl⟩⟩
  have h3 := Finset.mem_erase.mpr ⟨ne cc0_scratch3 cc0_scratch2 (by decide), Finset.mem_erase.mpr ⟨ne cc0_scratch3 cc0_scratch1 (by decide),
    Finset.mem_erase.mpr ⟨ne cc0_scratch3 cc0_scratch0 (by decide), own cc0_scratch3 rfl⟩⟩⟩
  unfold SparseCore.Cfg.ownBufs
  refine (SparseCore.bigSep_erase' (own cc0_scratch0 rfl)).trans ?_
  rw [SparseCore.bigSep_erase' h1, SparseCore.bigSep_erase' h2, SparseCore.bigSep_erase' h3]

/-- The rows of the tile's stretch. -/
abbrev tileSet (L : grid0.Coords) : Finset S320000x128.Idx := rowsFrom (base L) 10000

/-- Membership in a range of rows. -/
theorem mem_rowsFrom (b n : ℕ) (x : S320000x128.Idx) : x ∈ rowsFrom b n ↔ b ≤ (x 0).val ∧ (x 0).val < b + n := by
  simp [rowsFrom]

/-- A tile runs 125 chunks. -/
theorem trips_chunks : k0_t1_loop.trips = 125 := by decide

/-- A chunk's rows are among the tile's. -/
theorem chunk_subset (k : Fin k0_t1_loop.trips) : (oChunk L k).view.set ⊆ tileSet L := by
  rw [set_oChunk]; intro x hx
  have hk := lt_of_lt_of_eq k.isLt trips_chunks
  rw [mem_rowsFrom] at hx ⊢; omega

/-- Before the first chunk nothing of the tile's stretch is written. -/
theorem upTo_zero : ∀ x ∈ tileSet L, upTo m d (base L + 80 * 0) x = m (oLoc d) x := by
  intro x hx; rw [mem_rowsFrom] at hx; exact if_neg (by omega)
/-- After the last chunk all of the tile's stretch is written. -/
theorem upTo_end : ∀ x ∈ tileSet L, upTo m d (base L + 80 * k0_t1_loop.trips) x = outVal m d x := by
  intro x hx; rw [mem_rowsFrom] at hx; exact if_pos (by rw [trips_chunks]; omega)
/-- Before chunk `k` its rows are as they were. -/
theorem upTo_before (k : Fin k0_t1_loop.trips) : ∀ x ∈ (oChunk L k).view.set, upTo m d (base L + 80 * k.val) x = m (oLoc d) x := by
  rw [set_oChunk]; intro x hx; rw [mem_rowsFrom] at hx; exact if_neg (by omega)
/-- After chunk `k` its rows are written. -/
theorem upTo_after (k : Fin k0_t1_loop.trips) :
    ∀ x ∈ (oChunk L k).view.set, outVal m d x = upTo m d (base L + 80 * (k.val + 1)) x := by
  rw [set_oChunk]; intro x hx; rw [mem_rowsFrom] at hx; exact (if_pos (by omega)).symm
/-- Chunk `k` changes no other row of the stretch. -/
theorem upTo_off (k : Fin k0_t1_loop.trips) :
    ∀ x ∈ tileSet L \ (oChunk L k).view.set, upTo m d (base L + 80 * k.val) x = upTo m d (base L + 80 * (k.val + 1)) x := by
  rw [set_oChunk]; intro x hx
  rw [Finset.mem_sdiff, mem_rowsFrom, mem_rowsFrom] at hx
  by_cases h : (x 0).val < base L + 80 * k.val
  · exact (if_pos h).trans (if_pos (by omega)).symm
  · exact (if_neg h).trans (if_neg (by omega)).symm

/-- What holds before chunk `k` of the tile's loop. -/
def inv (q : PosShare TreeShare) (O : CellTallies nD τ sig (HIx 1)) (W : Waits sig (HIx 1)) (k : ℕ) (_ : BitVec 32) : sProp 𝕄 :=
  iprop(Transfers.MayWaits (V d (cV L) (jV L)) (default : HIx 1) O
    ∗ ((eV).view.loc (V d (cV L) (jV L)) ↦{q} m (eLoc d)) ∗ ((iV).view.loc (V d (cV L) (jV L)) ↦{q} m (iLoc d))
    ∗ ((tV).view.loc (V d (cV L) (jV L)) ↦{q} m (tLoc d))
    ∗ ((oV).view.loc (V d (cV L) (jV L)) ↦[tileSet L]{fullShare} upTo m d (base L + 80 * k))
    ∗ (∃ f, (bI).view.loc (V d (cV L) (jV L)) ↦{fullShare} f) ∗ (∃ f, (bW).view.loc (V d (cV L) (jV L)) ↦{fullShare} f)
    ∗ (∃ f, (bS).view.loc (V d (cV L) (jV L)) ↦{fullShare} f) ∗ (∃ f, (bO).view.loc (V d (cV L) (jV L)) ↦{fullShare} f)
    ∗ semVal (cGcell d L) 0 ∗ semVal (cIcell d L) 0 ∗ semVal (cEcell d L) 0 ∗ semVal (cOcell d L) 0
    ∗ ∃ W', ⌜∀ p ∈ W', p ∈ W ∨ p.2 = none⌝ ∗ owes (V d (cV L) (jV L)) O W')

set_option maxRecDepth 4096 in
/-- One trip of the tile's loop: the chunk's rows split off the tile's, the chunk run, the rows put back. -/
theorem inv_step (hpre : PreOK m) (q : PosShare TreeShare) (O : CellTallies nD τ sig (HIx 1)) (W : Waits sig (HIx 1))
    (k : Fin k0_t1_loop.trips) (acc : BitVec 32) :
    inv m d L q O W k.val acc
      ⊢ (wp frame (wpE (defs₀ (F := F)) 𝒱₀ (V d (cV L) (jV L)) none) Set.univ
          (k0_t1_body L eV (Memref.isWhole_whole _) iV (Memref.isWhole_whole _) tV (Memref.isWhole_whole _) oV (Memref.isWhole_whole _)
            bI (Memref.isWhole_whole _) bW (Memref.isWhole_whole _) bS (Memref.isWhole_whole _) bO (Memref.isWhole_whole _)
            cc0_scratch4 cc0_scoped0 cc0_scoped1 cc0_scoped2 k acc)
          fun acc' => inv m d L q O W (k.val + 1) acc' : sProp 𝕄) := by
  unfold inv
  iintro ⟨Hmw, He, Hi, Ht, Ho, HbI, HbW, HbS, HbO, HsG, HsI, HsE, HsO, %W', %hW', HO⟩
  ihave Ho' := (pointsTo_split_subset (q := fullShare) (f := upTo m d (base L + 80 * k.val)) (chunk_subset L k)).1 $$ Ho
  icases Ho' with ⟨Hc, Hr⟩
  ihave Hc' := (Entails.of_eq (pointsTo_congr (upTo_before m d L k))) $$ Hc
  ihave Hr' := (Entails.of_eq (pointsTo_congr (upTo_off m d L k))) $$ Hr
  iapply (wp_wand frame) $$ [Hmw He Hi Ht Hc' HbI HbW HbS HbO HsG HsI HsE HsO HO]
  · iapply (chunk_trip m d L hpre k acc q O W')
    iframe
  iintro %_ ⟨Hmw, He, Hi, Ht, Hc, HbI, HbW, HbS, HbO, HsG, HsI, HsE, HsO, %W2, %hW2, HO⟩
  ihave Hc' := (Entails.of_eq (pointsTo_congr (upTo_after m d L k))) $$ Hc
  ihave Ho := (pointsTo_split_subset (q := fullShare) (f := upTo m d (base L + 80 * (k.val + 1))) (chunk_subset L k)).2 $$ [Hc' Hr']
  · isplitl [Hc'] <;> iassumption
  iframe
  iexists W2; isplitr
  swap; · iexact HO
  ipureintro; intro p hp
  rcases hW2 p hp with h | h
  · exact hW' p h
  · exact .inr h

set_option maxHeartbeats 1000000 in
/-- The whole tile: its stretch of the result ends at `outVal`. -/
theorem tile_run (hpre : PreOK m) (q : PosShare TreeShare) (O : CellTallies nD τ sig (HIx 1)) (W : Waits sig (HIx 1)) :
    iprop(Transfers.MayWaits (V d (cV L) (jV L)) (default : HIx 1) O
    ∗ ((eV).view.loc (V d (cV L) (jV L)) ↦{q} m (eLoc d)) ∗ ((iV).view.loc (V d (cV L) (jV L)) ↦{q} m (iLoc d))
    ∗ ((tV).view.loc (V d (cV L) (jV L)) ↦{q} m (tLoc d))
    ∗ ((oV).view.loc (V d (cV L) (jV L)) ↦[tileSet L]{fullShare} m (oLoc d))
    ∗ (∃ f, (bI).view.loc (V d (cV L) (jV L)) ↦{fullShare} f) ∗ (∃ f, (bW).view.loc (V d (cV L) (jV L)) ↦{fullShare} f)
    ∗ (∃ f, (bS).view.loc (V d (cV L) (jV L)) ↦{fullShare} f) ∗ (∃ f, (bO).view.loc (V d (cV L) (jV L)) ↦{fullShare} f)
    ∗ semVal (cGcell d L) 0 ∗ semVal (cIcell d L) 0 ∗ semVal (cEcell d L) 0 ∗ semVal (cOcell d L) 0
    ∗ owes (V d (cV L) (jV L)) O W)
      ⊢ (wp frame (wpE (defs₀ (F := F)) 𝒱₀ (V d (cV L) (jV L)) none) Set.univ
          (cc0_k L eV (Memref.isWhole_whole _) iV (Memref.isWhole_whole _) tV (Memref.isWhole_whole _) oV (Memref.isWhole_whole _)
            bI (Memref.isWhole_whole _) bW (Memref.isWhole_whole _) bS (Memref.isWhole_whole _) bO (Memref.isWhole_whole _)
            cc0_scratch4 cc0_scoped0 cc0_scoped1 cc0_scoped2)
          fun _ => iprop(((eV).view.loc (V d (cV L) (jV L)) ↦{q} m (eLoc d)) ∗ ((iV).view.loc (V d (cV L) (jV L)) ↦{q} m (iLoc d))
    ∗ ((tV).view.loc (V d (cV L) (jV L)) ↦{q} m (tLoc d))
    ∗ ((oV).view.loc (V d (cV L) (jV L)) ↦[tileSet L]{fullShare} outVal m d)
    ∗ (∃ f, (bI).view.loc (V d (cV L) (jV L)) ↦{fullShare} f) ∗ (∃ f, (bW).view.loc (V d (cV L) (jV L)) ↦{fullShare} f)
    ∗ (∃ f, (bS).view.loc (V d (cV L) (jV L)) ↦{fullShare} f) ∗ (∃ f, (bO).view.loc (V d (cV L) (jV L)) ↦{fullShare} f)
    ∗ semVal (cGcell d L) 0 ∗ semVal (cIcell d L) 0 ∗ semVal (cEcell d L) 0 ∗ semVal (cOcell d L) 0
    ∗ ∃ W', ⌜∀ p ∈ W', p ∈ W ∨ p.2 = none⌝ ∗ owes (V d (cV L) (jV L)) O W') : sProp 𝕄) := by
  simp only [cc0_k_eq_skeleton]; unfold cc0_k_skel
  iintro ⟨Hmw, He, Hi, Ht, Ho, HbI, HbW, HbS, HbO, HsG, HsI, HsE, HsO, HO⟩
  ihave Ho' := (Entails.of_eq (pointsTo_congr (upTo_zero m d L)).symm) $$ Ho
  sl_for (inv m d L q O W) $$ [Hmw He Hi Ht Ho' HbI HbW HbS HbO HsG HsI HsE HsO HO]
  case region =>
    intro k acc
    exact inv_step m d L hpre q O W k acc
  · unfold inv
    iframe
    iexists W; isplitr
    · ipureintro; exact fun p hp => .inl hp
    · iexact HO
  iintro %_ HI
  unfold inv
  icases HI with ⟨-, He, Hi, Ht, Ho, HbI, HbW, HbS, HbO, HsG, HsI, HsE, HsO, HO⟩
  ihave Ho' := (Entails.of_eq (pointsTo_congr (upTo_end m d L))) $$ Ho
  sl_step
  iframe

end Tile

end Cert.Proof.KernelIdeal
end
-- ==== Proof.IdealLaunch.lean ====
/-
  The launch. Thirty-two tiles, two cores of sixteen, run the task of a tile side by side. Each holds a share of the three
  inputs and the rows of its own stretch of the result; together the shares make the inputs whole and the stretches make
  the result whole. `run_main` says what every run of the program ends in: on each device the result at `outVal`, the
  inputs as they were, every semaphore at zero.
-/
module

public import proofs.«01_k».proof.Defs
public import proofs.«01_k».proof.Proof.Product
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.WritesUnit
public import Idealize.ShloMosaic.Lib.Tactic
public import proofs.«01_k».proof.Proof.IdealTile
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen Cert.Proof.Product

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "eV" => (Memref.whole Cert.KernelIdeal.main_arg0_scv : Memref Cert.KernelIdeal.sig Kind.scVector Space.hbm Cert.KernelIdeal.S320000x128 EltTy.f32)
local notation "iV" => (Memref.whole Cert.KernelIdeal.main_arg1_scv : Memref Cert.KernelIdeal.sig Kind.scVector Space.hbm Cert.KernelIdeal.S320000 EltTy.i32)
local notation "tV" => (Memref.whole Cert.KernelIdeal.main_arg2_scv : Memref Cert.KernelIdeal.sig Kind.scVector Space.hbm Cert.KernelIdeal.S1024x128 EltTy.f32)
local notation "oV" => (Memref.whole Cert.KernelIdeal.main_v0_scv : Memref Cert.KernelIdeal.sig Kind.scVector Space.hbm Cert.KernelIdeal.S320000x128 EltTy.f32)
local notation "bI" => (Memref.whole Cert.KernelIdeal.cc0_scratch0 : Memref Cert.KernelIdeal.sig Kind.scVector Space.vmem Cert.KernelIdeal.S80 EltTy.i32)
local notation "bW" => (Memref.whole Cert.KernelIdeal.cc0_scratch1 : Memref Cert.KernelIdeal.sig Kind.scVector Space.vmem Cert.KernelIdeal.S80x128 EltTy.f32)
local notation "bS" => (Memref.whole Cert.KernelIdeal.cc0_scratch2 : Memref Cert.KernelIdeal.sig Kind.scVector Space.vmem Cert.KernelIdeal.S80x128 EltTy.f32)
local notation "bO" => (Memref.whole Cert.KernelIdeal.cc0_scratch3 : Memref Cert.KernelIdeal.sig Kind.scVector Space.vmem Cert.KernelIdeal.S80x128 EltTy.f32)

variable [FloatOps F]

variable (m : (ℓ : Loc nD τ sig) → Buf (Elt F) ℓ) (ρ : Dev nD → PrngReg)

/-- The program's definitions, one per label. -/
abbrev D : Defs nD τ sig (Elt F) (ΛP (F := F)) := Pipeline.defs pcfgs defs₀
/-- The variants of those definitions: none to choose. -/
abbrev 𝒱 : Variants := 𝒱₀.lift
/-- The one variant. -/
abbrev v₀ : 𝒱.V := Sum.inl none
/-- The call runs sixteen subcores of a core. -/
theorem nSub_zero : (K (F := F)).nSub 0 = 16 := rfl
/-- The call runs two cores. -/
theorem nCore_zero : (K (F := F)).nCore 0 = 2 := rfl

/-- What the launch asks of the program's semaphores and buffers: its four handshake semaphores are distinct and outlive
    the call, and no buffer of a core is shared between its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Where the handshakes stand in the ghost state. -/
abbrev EH : Emb UH (MT nD τ sig (HIx 1) (Elt F) ℕ UU ℕ) := embL

/-! ## What the handshakes carry: a tile's read shares of the three inputs and its rows of the result -/

/-- Tile `(c, i)`'s share of each input. -/
def sh (c : Fin 2) (i : Fin 16) : PosShare TreeShare := pieceOf (pieceOf fullShare 2 (by decide) c) 16 (by decide) i

/-- Tile `(c, i)`'s rows of the result. -/
def tileRows (c : Fin 2) (i : Fin 16) : Finset S320000x128.Idx := rowsFrom (20000 * i.val + 10000 * c.val) 10000

/-- What a tile holds besides its own buffers, the result's rows at `f`. -/
def tilePts (d : Dev nD) (f : Buf (Elt F) (oLoc d)) (c : Fin 2) (i : Fin 16) : sProp 𝕄 :=
  iprop((eLoc d ↦{sh c i} m (eLoc d)) ∗ (iLoc d ↦{sh c i} m (iLoc d)) ∗ (tLoc d ↦{sh c i} m (tLoc d)) ∗ (oLoc d ↦[tileRows c i]{fullShare} f))

/-- What the sixteen tiles of a core hold. -/
def corePts (d : Dev nD) (f : Buf (Elt F) (oLoc d)) (c : Fin 2) : sProp 𝕄 := bigSep Finset.univ fun i : Fin 16 => tilePts m d f c i

/-- A tile's part can be handed over. -/
instance tilePts_storable (d : Dev nD) (f : Buf (Elt F) (oLoc d)) (c : Fin 2) (i : Fin 16) :
    BI.Storable (upEmb : UEmb _ 𝕄) (tilePts m d f c i) := by unfold tilePts; infer_instance
/-- A core's part can be handed over. -/
instance corePts_storable (d : Dev nD) (f : Buf (Elt F) (oLoc d)) (c : Fin 2) :
    BI.Storable (upEmb : UEmb _ 𝕄) (corePts m d f c) := by unfold corePts; infer_instance

/-- The one call takes the inputs and the result whole, each core its tiles' parts, each tile its own; they come back with the
    result's rows at `outVal`. -/
def P : (K (F := F)).Pay (nD := nD) (Val := Elt F) (Name := ℕ) (U := UU) where
  st := fun q d c => match q with | 0 => corePts m d (m (oLoc d)) (Fin.cast nCore_zero c)
  dn := fun q d c => match q with | 0 => corePts m d (outVal m d) (Fin.cast nCore_zero c)
  go := fun q d c i => match q with | 0 => tilePts m d (m (oLoc d)) (Fin.cast nCore_zero c) (Fin.cast nSub_zero i)
  td := fun q d c i => match q with | 0 => tilePts m d (outVal m d) (Fin.cast nCore_zero c) (Fin.cast nSub_zero i)
  x := fun _ _ => iprop(emp)

/-- Everything the handshakes carry can be handed over. -/
instance P_storable : (P (F := F) m).IsStorable where
  st q d c := match q with | 0 => corePts_storable m d (m (oLoc d)) (Fin.cast nCore_zero c)
  dn q d c := match q with | 0 => corePts_storable m d (outVal m d) (Fin.cast nCore_zero c)
  go q d c i := match q with | 0 => tilePts_storable m d (m (oLoc d)) (Fin.cast nCore_zero c) (Fin.cast nSub_zero i)
  td q d c i := match q with | 0 => tilePts_storable m d (outVal m d) (Fin.cast nCore_zero c) (Fin.cast nSub_zero i)

/-- A product over the call's subcores is one over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
/-- A product over the call's cores is one over two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A core hands each tile its part, and has its own part back once they all return theirs. -/
theorem vecSplit : (K (F := F)).VecSplit' (P m) 0 := by
  intro d c
  show corePts m d (m (oLoc d)) (Fin.cast nCore_zero c) ⊢ |={Set.univ}=> iprop(
      (bigSep Finset.univ fun i : Fin ((K (F := F)).nSub 0) => tilePts m d (m (oLoc d)) (Fin.cast nCore_zero c) (Fin.cast nSub_zero i))
      ∗ ((bigSep Finset.univ fun i : Fin ((K (F := F)).nSub 0) => tilePts m d (outVal m d) (Fin.cast nCore_zero c) (Fin.cast nSub_zero i))
          -∗ corePts m d (outVal m d) (Fin.cast nCore_zero c)))
  rw [bigSep_tasks (F := F) (tilePts m d (m (oLoc d)) (Fin.cast nCore_zero c)), bigSep_tasks (F := F) (tilePts m d (outVal m d) (Fin.cast nCore_zero c))]
  unfold corePts
  iintro H; imodintro
  isplitl [H]; · iexact H
  iintro H; iexact H

/-! ## The parts make the whole -/

/-- Membership in a tile's rows. -/
theorem mem_tileRows (c : Fin 2) (i : Fin 16) (x : S320000x128.Idx) :
    x ∈ tileRows c i ↔ 20000 * i.val + 10000 * c.val ≤ (x 0).val ∧ (x 0).val < 20000 * i.val + 10000 * c.val + 10000 :=
  mem_rowsFrom _ _ x

/-- Two tiles of a core share no row. -/
theorem tiles_disjoint (c : Fin 2) : ∀ i ∈ (Finset.univ : Finset (Fin 16)), ∀ j ∈ (Finset.univ : Finset (Fin 16)), i ≠ j →
    Disjoint (tileRows c i) (tileRows c j) := by
  intro i _ j _ h
  rw [Finset.disjoint_left]; intro x hi hj
  rw [mem_tileRows] at hi hj
  exact h (Fin.ext (by omega))

/-- A core's rows of the result. -/
def coreRows (c : Fin 2) : Finset S320000x128.Idx := (Finset.univ : Finset (Fin 16)).biUnion (tileRows c)

/-- The two cores share no row. -/
theorem cores_disjoint : ∀ c ∈ (Finset.univ : Finset (Fin 2)), ∀ c' ∈ (Finset.univ : Finset (Fin 2)), c ≠ c' → Disjoint (coreRows c) (coreRows c') := by
  intro c _ c' _ h
  rw [Finset.disjoint_left]; intro x hi hj
  obtain ⟨i, -, hi⟩ := Finset.mem_biUnion.mp hi
  obtain ⟨j, -, hj⟩ := Finset.mem_biUnion.mp hj
  rw [mem_tileRows] at hi hj
  exact h (Fin.ext (by have := c.isLt; have := c'.isLt; omega))

/-- The two cores' rows are all the rows. -/
theorem cores_cover : (Finset.univ : Finset (Fin 2)).biUnion coreRows = Finset.univ := by
  refine Finset.eq_univ_of_forall fun x => ?_
  have hx : (x 0).val < 320000 := (x 0).isLt
  refine Finset.mem_biUnion.mpr ⟨⟨(x 0).val / 10000 % 2, by omega⟩, Finset.mem_univ _, Finset.mem_biUnion.mpr
    ⟨⟨(x 0).val / 20000, by omega⟩, Finset.mem_univ _, (mem_tileRows _ _ x).mpr ?_⟩⟩
  show 20000 * ((x 0).val / 20000) + 10000 * ((x 0).val / 10000 % 2) ≤ (x 0).val
    ∧ (x 0).val < 20000 * ((x 0).val / 20000) + 10000 * ((x 0).val / 10000 % 2) + 10000
  omega

/-- A whole array is the tiles' shares of it. -/
theorem shares {ℓ : Loc nD τ sig} (f : Buf (Elt F) ℓ) :
    (ℓ ↦{fullShare} f : sProp 𝕄) = bigSep Finset.univ fun c : Fin 2 => bigSep Finset.univ fun i : Fin 16 => ℓ ↦{sh c i} f := by
  rw [pointsTo_piecesOf Finset.univ f (show 0 < 2 by decide) fullShare]
  exact bigSep_congr fun c _ => pointsTo_piecesOf Finset.univ f (show 0 < 16 by decide) _

/-- The whole result is the tiles' rows of it. -/
theorem rows_all (d : Dev nD) (f : Buf (Elt F) (oLoc d)) :
    (oLoc d ↦{fullShare} f : sProp 𝕄) = bigSep Finset.univ fun c : Fin 2 => bigSep Finset.univ fun i : Fin 16 => oLoc d ↦[tileRows c i]{fullShare} f := by
  have h : (oLoc d ↦[(Finset.univ : Finset (Fin 2)).biUnion coreRows]{fullShare} f : sProp 𝕄) = _ :=
    pointsTo_biUnion Finset.univ (ℓ := oLoc d) coreRows cores_disjoint
  rw [cores_cover] at h
  refine h.trans (bigSep_congr fun c _ => ?_)
  exact pointsTo_biUnion Finset.univ (ℓ := oLoc d) (tileRows c) (tiles_disjoint c)

/-- The inputs and the result, whole. -/
abbrev allPts (d : Dev nD) (f : Buf (Elt F) (oLoc d)) : sProp 𝕄 :=
  iprop((eLoc d ↦{fullShare} m (eLoc d)) ∗ (iLoc d ↦{fullShare} m (iLoc d)) ∗ (tLoc d ↦{fullShare} m (tLoc d)) ∗ (oLoc d ↦{fullShare} f))

/-- The two cores' parts are the inputs and the result, whole. -/
theorem allPts_cores (d : Dev nD) (f : Buf (Elt F) (oLoc d)) : (bigSep Finset.univ fun c : Fin 2 => corePts m d f c) = allPts m d f := by
  unfold corePts tilePts allPts
  simp only [bigSep_sep']
  rw [← shares, ← shares, ← shares, ← rows_all]

/-- What the call takes: the inputs and the result as it was. -/
theorem st0_eq (d : Dev nD) : (bigSep Finset.univ fun c : Fin ((K (F := F)).nCore 0) => (P m).st 0 d c) = allPts m d (m (oLoc d)) :=
  (bigSep_cores (F := F) (corePts m d (m (oLoc d)))).trans (allPts_cores m d _)
/-- What the call gives back: the inputs and the result at `outVal`. -/
theorem dn0_eq (d : Dev nD) : (bigSep Finset.univ fun c : Fin ((K (F := F)).nCore 0) => (P m).dn 0 d c) = allPts m d (outVal m d) :=
  (bigSep_cores (F := F) (corePts m d (outVal m d))).trans (allPts_cores m d _)

/-! ## The task -/

section Task

variable (d : Dev nD) (L : grid0.Coords)

/-- The grid's first axis: two cores. -/
theorem bound_zero : grid0.bound 0 = 2 := rfl
/-- The grid's second axis: sixteen subcores. -/
theorem bound_one : grid0.bound 1 = 16 := rfl

/-- The task on tile `L`, between what the handshakes hand it and what they take back. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ tilePts m d (m (oLoc d)) (Fin.cast bound_zero (L 0)) (Fin.cast bound_one (L 1))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L eV (Memref.isWhole_whole _) iV (Memref.isWhole_whole _) tV (Memref.isWhole_whole _) oV (Memref.isWhole_whole _)
            bI (Memref.isWhole_whole _) bW (Memref.isWhole_whole _) bS (Memref.isWhole_whole _) bO (Memref.isWhole_whole _)
            cc0_scratch4 cc0_scoped0 cc0_scoped1 cc0_scoped2)
          fun _ => iprop(tilePts m d (outVal m d) (Fin.cast bound_zero (L 0)) (Fin.cast bound_one (L 1))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold tilePts
  iintro ⟨#Hlv, -, ⟨He, Hi, Ht, Ho⟩, ⟨HbI, HbW, HbS, HbO, Hbufs⟩, ⟨HsG, HsI, HsE, HsO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  iapply (wp_wand frame) $$ [Hmw He Hi Ht Ho HbI HbW HbS HbO HsG HsI HsE HsO HO]
  · iapply (tile_run m d L hpre (sh (Fin.cast bound_zero (L 0)) (Fin.cast bound_one (L 1))) O W)
    isplitl [Hmw]; · iexact Hmw
    isplitl [He]; · iexact He
    isplitl [Hi]; · iexact Hi
    isplitl [Ht]; · iexact Ht
    isplitl [Ho]; · iexact Ho
    iframe
  iintro %_ ⟨He, Hi, Ht, Ho, HbI, HbW, HbS, HbO, HsG, HsI, HsE, HsO, HO⟩
  isplitl [He Hi Ht Ho]
  · isplitl [He]; · iexact He
    isplitl [Hi]; · iexact Hi
    isplitl [Ht]; · iexact Ht
    iexact Ho
  iframe

/-- The grid's coordinates of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The body that subcore `s` of core `c` runs is the kernel at that grid point. -/
theorem defs₀_vector (c : Fin τ.nSC) (s : Fin τ.nSub) :
    defs₀ (F := F) (.scVector c s) 0 ()
      = SparseCore.onTile hcore0 hsub0 (fun c s => cc0_k (coordsV c s) eV (Memref.isWhole_whole _) iV (Memref.isWhole_whole _)
          tV (Memref.isWhole_whole _) oV (Memref.isWhole_whole _) bI (Memref.isWhole_whole _) bW (Memref.isWhole_whole _)
          bS (Memref.isWhole_whole _) bO (Memref.isWhole_whole _) cc0_scratch4 cc0_scoped0 cc0_scoped1 cc0_scoped2) ⟨⟩ c s := rfl

/-- The waits a task leaves behind, in the form the launch asks for. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  iframe
  iexists W'; isplitr
  · ipureintro; exact fun p hp => (hW' p hp).imp_right Or.inl
  · iexact HO

set_option maxRecDepth 16384 in
/-- Every tile of the call meets its obligation. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

end Task

/-! ## The launch -/

/-- The ghost state at the start: the handshakes' tokens and the counters. -/
def u₀ : UU := (initOf (K (F := F)).hsCells (K (F := F)).hsToks, 1)

/-- A product of nothing is nothing. -/
theorem bigSep_emp' {I : Type} (s : Finset I) : (bigSep s fun _ => iprop(emp)) = (iprop(emp) : sProp 𝕄) := bigSep_emp_const s

/-- The starting ghost state is the handshakes' tokens, and nothing besides on any device or thread. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-- The arrays of a device that outlive the call are the three inputs and the result. -/
theorem unscopedBufs_eq (d : Dev nD) (W : (b : Ref sig .tc) → Buf (Elt F) ((d.tc : Thread nD τ).loc b)) :
    (unscopedBufs d W : sProp 𝕄) = iprop((eLoc d ↦{fullShare} W main_arg0) ∗ (iLoc d ↦{fullShare} W main_arg1)
      ∗ (tLoc d ↦{fullShare} W main_arg2) ∗ oLoc d ↦{fullShare} W main_v0) := by
  unfold unscopedBufs
  rw [show (Finset.univ.filter fun b : Ref sig .tc => ¬ b.isScoped) = {main_arg0, main_arg1, main_arg2, main_v0} by decide,
    SparseCore.bigSep_insert' (by decide), SparseCore.bigSep_insert' (by decide), SparseCore.bigSep_insert' (by decide), bigSep_singleton]

/-- The host's thread on device `d`: the one call, from the inputs and the result whole, to the result at `outVal`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ allPts m d (outVal m d) ∗ (K (F := F)).tcEnd d) := by
  unfold SparseCore.Cfg.tcRes SparseCore.Cfg.tcEnd
  rw [unscopedBufs_eq]
  simp only [main, wp_bind, wp_pure]
  iintro ⟨#Hctx, Hst, ⟨Hb, Hall, Hts, -⟩, -⟩
  iapply ((K (F := F)).wp_run (D (F := F)) 𝒱 (EH := EH) (P := P m) κ d 0) $$ [Hst Hall Hb Hts]
  isplitr; · iexact Hctx
  isplitl [Hst]; · iexact Hst
  isplitl [Hall]
  · rw [st0_eq]; iexact Hall
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-- What the end's memory holds of device `d`. -/
def fq (d : Dev nD) (s' : Phys nD τ sig (Elt F)) : Prop :=
  s'.mem.mem (oLoc d) = outVal m d ∧ s'.mem.mem (eLoc d) = m (eLoc d) ∧ s'.mem.mem (iLoc d) = m (iLoc d) ∧ s'.mem.mem (tLoc d) = m (tLoc d)

set_option maxRecDepth 16384 in
/-- Holding the inputs and the result at the end says what memory holds there. -/
theorem hfin (d : Dev nD) (s' : Phys nD τ sig (Elt F)) : iprop(allPts m d (outVal m d) ∗ SI s') ⊢ (⌜fq m d s'⌝ : sProp 𝕄) := by
  iintro ⟨⟨He, Hi, Ht, Ho⟩, HSI⟩
  ihave H := (persistent_entails_right (SI_pointsTo_agree (st := s') (ℓ := eLoc d) (I := Finset.univ) (q := fullShare) (f := m (eLoc d)))) $$ [HSI He]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h3, HSI, -⟩
  ihave H := (SI_pointsTo_agree (st := s') (ℓ := oLoc d) (I := Finset.univ) (q := fullShare) (f := outVal m d)) $$ [HSI Ho]
  · isplitl [HSI] <;> iassumption
  icases H with %h4
  ipureintro
  exact ⟨funext fun i => h4 i (Finset.mem_univ i), funext fun i => h1 i (Finset.mem_univ i), funext fun i => h2 i (Finset.mem_univ i),
    funext fun i => h3 i (Finset.mem_univ i)⟩

/-- What every run ends in: on each device the result at `outVal`, the inputs as they were, every semaphore at zero. -/
def QC : PUnit × MemSt nD τ sig (Elt F) → Prop := fun r =>
  (∀ c : Dev nD, r.2.mem (oLoc c) = outVal m c ∧ r.2.mem (eLoc c) = m (eLoc c) ∧ r.2.mem (iLoc c) = m (iLoc c) ∧ r.2.mem (tLoc c) = m (tLoc c))
    ∧ r.2.sem = fun _ => 0

/-- Every run of the program ends so, the list of types in range. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (fun d => allPts m d (outVal m d)) (u₀ (F := F)) (sep_elim_left.trans (hu₀ m)) (hmain m ρ) (fq m) (hfin m) (QC m)
    (fun _ h hz => ⟨h, hz⟩)

end Cert.Proof.KernelIdeal
end
-- ==== Proof.Range.lean ====
/-
  The precondition, read word by word: every entry of the list of types is one of the table's 1024 row numbers.
-/
module

public import proofs.«01_k».proof.Proof.Gen.Pre_types_in_range
public import Idealize.ShloMosaic.Lib.ReduceAll
public import Idealize.ShloMosaic.Lib.Pipeline.Value

@[expose] public section

noncomputable section

namespace Cert.Proof.Range

open Idealize.ShloMosaic Cert.Pre_types_in_range Cert.Pre_types_in_range.Gen

/-- A word that is at least 0 and below 1024 as a signed number is below 1024 as an unsigned one. -/
theorem word_lt (v : BitVec 32) (h : IntOp.andi (IntOp.cmpi .sge v 0#32) (IntOp.cmpi .slt v 1024#32) = 1#1) : v.toNat < 1024 := by
  obtain ⟨h0, h1⟩ := IntOp.andi_eq_one.mp h
  rw [IntOp.cmpi_sge] at h0
  rw [IntOp.cmpi_slt] at h1
  have e0 : (0#32 : BitVec 32).toInt = 0 := by decide
  have e1 : (1024#32 : BitVec 32).toInt = 1024 := by decide
  rw [e0] at h0
  rw [e1] at h1
  rw [BitVec.toInt_eq_toNat_cond] at h0 h1
  have := v.isLt
  split at h0 <;> omega

instance : Subsingleton S_.Idx := ⟨fun _ _ => funext fun a => a.elim0⟩

variable {F : FTy → Type} [FloatOps F]

/-- Where the precondition holds, every word of the list of types names a row of the table. -/
theorem types_lt (emb : FVec F S320000x128 .f32) (idx : IVec S320000 32) (tab : FVec F S1024x128 .f32)
    (h : fn emb idx tab = fun _ => 1#1) (j : S320000.Idx) : (idx j).toNat < 1024 := by
  have h' := congrFun h fun a => a.elim0
  unfold fn at h'
  have e := Host.reduce_andi_all _ _ _ _ _ h' j
  have l := broadcastInDim_apply ![] bcast_S_S320000 (constantI S_ 32 0#32) j (fun a => a.elim0) fun a => a.elim0
  have u := broadcastInDim_apply ![] bcast_S_S320000 (constantI S_ 32 1024#32) j (fun a => a.elim0) fun a => a.elim0
  unfold andi cmpi at e
  rw [l, u] at e
  exact word_lt (idx j) e

end Cert.Proof.Range

end
-- ==== Proof.Reference.lean ====
/-
  The reference's result. The reference first brings a negative row number up by 1024, takes that row of the table,
  replaces a row whose number is still outside the table by a constant, then multiplies the halves of the taken row and of
  the embeddings' row and puts the two halves of the product side by side. Where every row number is inside the table to
  begin with, neither the first step nor the replacement does anything, and the result is `scaled`.
-/
module

public import proofs.«01_k».proof.Proof.Product
public import proofs.«01_k».proof.Proof.Gen.ReferenceIdeal
public import proofs.«01_k».proof.Proof.Gen.ReferenceIdeal.Run
public import Idealize.ShloMosaic.Lib.ReduceAll
public import Idealize.ShloMosaic.Lib.Routing.Ops
public import Idealize.ShloMosaic.Lib.Pipeline.Value

@[expose] public section

noncomputable section

namespace Cert.Proof.Reference

open Idealize.ShloMosaic Cert.ReferenceIdeal Cert.ReferenceIdeal.Gen Cert.Proof.Product

variable {F : FTy → Type} [FloatOps F]

/-! ## The row numbers -/

/-- The list of types with the negative words brought up by 1024, as a column. -/
def column (idx : IVec S320000 32) : IVec S320000x1 32 :=
  broadcastInDim S320000x1 ![0] bcast_S320000_S320000x1_0
    (select (cmpi .slt idx (broadcastInDim S320000 ![] bcast_S_S320000 (constantI S_ 32 0#32)))
      (addi idx (broadcastInDim S320000 ![] bcast_S_S320000 (constantI S_ 32 1024#32))) idx)

/-- For each row, whether its number is inside the table. -/
def inside (idx : IVec S320000 32) : IVec S320000 1 :=
  Host.reduce IntOp.andi
    (andi (cmpi .sge (column idx) (broadcastInDim S320000x1 ![] bcast_S_S320000x1 (constantI S_ 32 0#32)))
      (cmpi .sle (column idx) (broadcastInDim S320000x1 ![0, 1] bcast_S1x1_S320000x1_0_1 (broadcastInDim S1x1 ![1] bcast_S1_S1x1_1 (constantI S1 32 1023#32)))))
    (constantI S_ 1 1#1) reducesTo_S320000x1_S320000_d1 h_S_

/-- The rows taken from the table, a constant where the number is outside. -/
def taken (idx : IVec S320000 32) (tab : FVec F S1024x128 .f32) : FVec F S320000x128 .f32 :=
  select (broadcastInDim S320000x128 ![0] bcast_S320000_S320000x128_0 (inside idx))
    (Host.gather gather_S1024x128_S320000x1_S320000x128_1_0_n_n_0_1_1128 tab (column idx))
    (broadcastInDim S320000x128 ![] bcast_S_S320000x128 (constant S_ .f32 0x7FC00000#32))

/-- A word below 1024 is nonnegative as a signed number, and the same number. -/
theorem toInt_small {v : BitVec 32} (h : v.toNat < 1024) : v.toInt = v.toNat := by
  rw [BitVec.toInt_eq_toNat_cond, if_pos (by omega)]

/-- A word in range is left alone. -/
theorem column_apply (idx : IVec S320000 32) (x : S320000x1.Idx) (h : (idx (at1 (x 0))).toNat < 1024) : column idx x = idx (at1 (x 0)) := by
  refine (broadcastInDim_apply _ _ _ x (at1 (x 0)) fun | 0 => rfl).trans ?_
  refine if_neg fun e => ?_
  have e' : (idx (at1 (x 0))).toInt < (0#32 : BitVec 32).toInt := IntOp.cmpi_slt.mp e
  rw [toInt_small h, show (0#32 : BitVec 32).toInt = 0 by decide] at e'
  omega

/-- Every row number is inside the table. -/
theorem inside_apply (idx : IVec S320000 32) (h : ∀ j, (idx j).toNat < 1024) (j : S320000.Idx) : inside idx j = 1#1 := by
  refine Host.reduce_andi_one _ _ _ _ j rfl fun x => IntOp.andi_eq_one.mpr ⟨IntOp.cmpi_sge.mpr ?_, IntOp.cmpi_sle.mpr ?_⟩
  · show (0#32 : BitVec 32).toInt ≤ (column idx x).toInt
    rw [column_apply idx x (h _), toInt_small (h _), show (0#32 : BitVec 32).toInt = 0 by decide]; omega
  · show (column idx x).toInt ≤ (1023#32 : BitVec 32).toInt
    have := h (at1 (x 0))
    rw [column_apply idx x (h _), toInt_small (h _), show (1023#32 : BitVec 32).toInt = 1023 by decide]; omega

/-- The row taken is the table's row that the list names. -/
theorem taken_apply (idx : IVec S320000 32) (tab : FVec F S1024x128 .f32) (h : ∀ j, (idx j).toNat < 1024) (r : Fin 320000) (j : Fin 128) :
    taken idx tab (at2 r j) = rowOf tab (typ idx r) j := by
  have hm : broadcastInDim S320000x128 ![0] bcast_S320000_S320000x128_0 (inside idx) (at2 r j) = 1#1 :=
    (broadcastInDim_apply _ _ _ (at2 r j) (at1 r) fun | 0 => rfl).trans (inside_apply idx h _)
  unfold taken select
  rw [hm, Scalar.select, if_pos (by decide)]
  have hc : column idx (ValueIdx.ix2 r (0 : Fin 1)) = BitVec.ofNat 32 (typ idx r).val := by
    rw [column_apply idx _ (h _)]
    apply BitVec.eq_of_toNat_eq
    have := h (at1 r)
    show (idx (at1 r)).toNat = (BitVec.ofNat 32 ((idx (at1 r)).toNat % 1024)).toNat
    rw [BitVec.toNat_ofNat]; omega
  have e : ∀ {n : ℕ} (i : Fin n) (j : Fin 128), ValueIdx.ix2 i j = at2 i j := fun i j => funext fun | 0 => rfl | 1 => rfl
  have hg := Routing.gather_row gather_S1024x128_S320000x1_S320000x128_1_0_n_n_0_1_1128 rfl rfl rfl rfl rfl tab (column idx) r j (typ idx r) hc (by decide)
  rw [e, e] at hg
  exact hg

/-! ## The product -/

/-- The first half of the columns. -/
def lo (f : FVec F S320000x128 .f32) : FVec F S320000x64 .f32 := extractStridedSlice S320000x64 ![0, 0] f slices_S320000x128_S320000x64_0_0
/-- The second half of the columns. -/
def hi (f : FVec F S320000x128 .f32) : FVec F S320000x64 .f32 := extractStridedSlice S320000x64 ![0, 64] f slices_S320000x128_S320000x64_0_64

/-- The index of entry `j` of row `r` of a half. -/
def half (r : Fin 320000) (j : Fin 64) : S320000x64.Idx := fun | 0 => r | 1 => j

/-- The first half's entries are the row's first 64. -/
theorem lo_apply (f : FVec F S320000x128 .f32) (r : Fin 320000) (j : Fin 64) (k : Fin 128) (hk : k.val = j.val) : lo f (half r j) = rowOf f r k :=
  extractStridedSlice_apply _ f _ (half r j) (at2 r k) fun
    | 0 => (Nat.zero_add _).symm
    | 1 => hk.trans (Nat.zero_add _).symm
/-- The second half's entries are the row's last 64. -/
theorem hi_apply (f : FVec F S320000x128 .f32) (r : Fin 320000) (j : Fin 64) (k : Fin 128) (hk : k.val = 64 + j.val) : hi f (half r j) = rowOf f r k :=
  extractStridedSlice_apply _ f _ (half r j) (at2 r k) fun
    | 0 => (Nat.zero_add _).symm
    | 1 => hk

/-- The reference's product of two arrays of rows. -/
def product (w s : FVec F S320000x128 .f32) : FVec F S320000x128 .f32 :=
  concatenate S320000x128 1 [⟨S320000x64, subf (mulf (lo w) (lo s)) (mulf (hi w) (hi s))⟩,
    ⟨S320000x64, addf (mulf (lo w) (hi s)) (mulf (hi w) (lo s))⟩] concatenates_S320000x64_S320000x64_S320000x128_d1

/-- It is the product of the rows, entry by entry. -/
theorem product_apply (w s : FVec F S320000x128 .f32) (r : Fin 320000) (j : Fin 128) :
    product w s (at2 r j) = cmul (rowOf w r) (rowOf s r) j := by
  by_cases hj : j.val < 64
  · refine (concatenate_pair_apply_left (s₁ := S320000x64) (s₂ := S320000x64) (t := S320000x128) 1 _ _ _ (at2 r j) rfl (half r ⟨j.val, hj⟩) fun | 0 => rfl | 1 => rfl).trans ?_
    show FloatOps.subf (FloatOps.mulf (lo w _) (lo s _)) (FloatOps.mulf (hi w _) (hi s _)) = _
    rw [cmul_lo _ _ j hj, lo_apply w r _ j rfl, lo_apply s r _ j rfl, hi_apply w r _ ⟨j.val + 64, by omega⟩ (Nat.add_comm _ _),
      hi_apply s r _ ⟨j.val + 64, by omega⟩ (Nat.add_comm _ _)]
  · have hj' := j.isLt
    refine (concatenate_pair_apply_right (s₁ := S320000x64) (s₂ := S320000x64) (t := S320000x128) 1 _ _ _ (at2 r j) rfl rfl (half r ⟨j.val - 64, by omega⟩)
      (fun | 0 => fun _ => rfl | 1 => fun h => absurd rfl h) (by show j.val - 64 + 64 = j.val; omega)).trans ?_
    show FloatOps.addf (FloatOps.mulf (lo w _) (hi s _)) (FloatOps.mulf (hi w _) (lo s _)) = _
    rw [cmul_hi _ _ j hj, lo_apply w r _ ⟨j.val - 64, by omega⟩ rfl, lo_apply s r _ ⟨j.val - 64, by omega⟩ rfl,
      hi_apply w r _ j (by show j.val = 64 + (j.val - 64); omega), hi_apply s r _ j (by show j.val = 64 + (j.val - 64); omega)]

/-! ## The result -/

/-- The reference's result is `scaled` of its arguments, the list of types in range. -/
theorem result (m : (ℓ : Loc nD τ sig) → Buf (Elt F) ℓ) (c : Dev nD)
    (h : ∀ j : S320000.Idx, (m ((c.tc : Thread nD τ).loc main_arg1) j).toNat < 1024) :
    Value.res_out0 m c = scaled (F := F) (m ((c.tc : Thread nD τ).loc main_arg0)) (m ((c.tc : Thread nD τ).loc main_arg1)) (m ((c.tc : Thread nD τ).loc main_arg2)) := by
  have e : Value.res_out0 m c = product (F := F) (taken (m ((c.tc : Thread nD τ).loc main_arg1)) (m ((c.tc : Thread nD τ).loc main_arg2)))
      (m ((c.tc : Thread nD τ).loc main_arg0)) := by unfold Value.res_out0 Value.res_main_v11; rfl
  rw [e]
  funext x
  rw [← at2_eta x]
  refine (product_apply _ _ _ _).trans ?_
  exact congrArg (fun w => cmul w _ _) (funext fun j => taken_apply _ _ h _ j)

end Cert.Proof.Reference

end
-- ==== Proof.lean ====
/-
  The certificate: the claims of Defs.lean, each from the runs of the other modules.

  The three programs are read at the same value `scaled` (Product.lean), generic in the float values: the kernel's run ends
  at it (Launch.lean; IdealLaunch.lean for the idealized print), and so does the reference's (Reference.lean). A frame is
  such a run with the value dropped; the value claim is the two runs at the extended reals.
-/
module

public import proofs.«01_k».proof.Defs
public import proofs.«01_k».proof.Proof.Launch
public import proofs.«01_k».proof.Proof.IdealLaunch
public import proofs.«01_k».proof.Proof.Range
public import proofs.«01_k».proof.Proof.Reference
public import Idealize.ShloMosaic.Adequacy
public import Idealize.ShloMosaic.Init

@[expose] public section

noncomputable section

namespace Cert.Proof

open Idealize.ShloMosaic Idealize.SL.Sem

/-- The kernel's precondition puts the list of types in range. -/
theorem in_range {m : (ℓ : Loc Cert.Kernel.nD Cert.Kernel.τ Cert.Kernel.sig) → Buf (Elt Bits) ℓ} (h : Cert.Pre_Kernel m) : Kernel.PreOK m :=
  fun c j => Range.types_lt _ _ _ (h c) j

/-- The idealized kernel's precondition puts the list of types in range. -/
theorem in_range_ideal {m : (ℓ : Loc Cert.KernelIdeal.nD Cert.KernelIdeal.τ Cert.KernelIdeal.sig) → Buf (Elt Ideal) ℓ}
    (h : Cert.Pre_KernelIdeal m) : KernelIdeal.PreOK m :=
  fun c j => Range.types_lt _ _ _ (h c) j

/-- The kernel runs, leaves its arguments as they were and its semaphores at zero. -/
theorem frame_kernel : Cert.quiescent_Kernel := fun m ρ hpre =>
  (θ_run Cert.Kernel.defs _ _).mono (fun _ h => ⟨fun c => (h.1 c).2, h.2⟩) (Kernel.run_main (F := Bits) m ρ (in_range hpre))

/-- So does the idealized kernel. -/
theorem frame_kernel_ideal : Cert.quiescent_KernelIdeal := fun m ρ hpre =>
  (θ_run Cert.KernelIdeal.defs _ _).mono (fun _ h => ⟨fun c => (h.1 c).2, h.2⟩) (KernelIdeal.run_main (F := Ideal) m ρ (in_range_ideal hpre))

/-- So does the reference, whatever the list of types holds; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the same arguments, the list of types in range, the idealized kernel and the reference end with the same result:
    `scaled` of the arguments. -/
theorem same_value : Cert.algebraic_KernelIdeal_ReferenceIdeal := by
  intro m ρ m' ρ' hpre hagree
  refine ⟨fun c => KernelIdeal.outVal m c,
    (θ_run Cert.KernelIdeal.defs _ _).mono (fun _ h c => h.1 c) (KernelIdeal.run_main (F := Ideal) m ρ (in_range_ideal hpre)), ?_⟩
  refine (θ_run Cert.ReferenceIdeal.defs _ _).mono (fun _ h c => ⟨(h c).1.trans ?_, (h c).2⟩) (Cert.ReferenceIdeal.Value.run (F := Ideal) m' ρ')
  obtain ⟨h0, h1, h2⟩ := hagree c
  refine (Reference.result m' c fun j => ?_).trans ?_
  · rw [h1]; exact in_range_ideal hpre c j
  · rw [h0, h1, h2]; rfl

/-- The certificate's claim. -/
theorem claim : Cert.Claim :=
  ⟨Cert.Kernel.Gen.facts, Cert.KernelIdeal.Gen.facts, Cert.ReferenceIdeal.Gen.facts, Cert.Pre_types_in_range.Gen.facts,
    frame_kernel, frame_kernel_ideal, frame_reference, fun m ρ _ => frame_reference m ρ trivial, trivial, same_value⟩

end Cert.Proof

end
